-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ preserves_Kernel_KernelIdeal
    ∧ algebraic_KernelIdeal_ReferenceIdeal_pre_real_inputs (hKernelIdeal := hKernelIdeal) (hReferenceIdeal := hReferenceIdeal) (hPre_real_inputs := hPre_real_inputs)
-- ==== Pre_real_inputs.lean ====
abbrev S256x510 : Shape := ⟨2, ![256, 510]⟩
abbrev S2x4096 : Shape := ⟨2, ![2, 4096]⟩
abbrev S256 : Shape := ⟨1, ![256]⟩
abbrev S4096x4096 : Shape := ⟨2, ![4096, 4096]⟩
abbrev S4096x192 : Shape := ⟨2, ![4096, 192]⟩
abbrev S192 : Shape := ⟨1, ![192]⟩
abbrev S192x16320 : Shape := ⟨2, ![192, 16320]⟩
abbrev S16320 : Shape := ⟨1, ![16320]⟩
abbrev S510x32 : Shape := ⟨2, ![510, 32]⟩
abbrev S32 : Shape := ⟨1, ![32]⟩
abbrev S8192x96 : Shape := ⟨2, ![8192, 96]⟩
abbrev S96 : Shape := ⟨1, ![96]⟩
abbrev S96x48 : Shape := ⟨2, ![96, 48]⟩
abbrev S48 : Shape := ⟨1, ![48]⟩
abbrev S48x65280 : Shape := ⟨2, ![48, 65280]⟩
abbrev S65280 : Shape := ⟨1, ![65280]⟩
abbrev S1x4096 : Shape := ⟨2, ![1, 4096]⟩
abbrev S4096 : Shape := ⟨1, ![4096]⟩
abbrev S_ : Shape := ⟨0, ![]⟩

class Facts : Prop where
  slices_S2x4096_S1x4096_0_0 : S2x4096.Slices ![0, 0] S1x4096
  shapeCasts_S1x4096_S4096 : S1x4096.ShapeCasts S4096
  bcast_S_S256x510 : S_.BroadcastsInDim S256x510 (![] : Fin 0 → Fin S256x510.rank)
  bcast_S_S4096x4096 : S_.BroadcastsInDim S4096x4096 (![] : Fin 0 → Fin S4096x4096.rank)
  bcast_S_S4096x192 : S_.BroadcastsInDim S4096x192 (![] : Fin 0 → Fin S4096x192.rank)
  bcast_S_S192 : S_.BroadcastsInDim S192 (![] : Fin 0 → Fin S192.rank)
  bcast_S_S192x16320 : S_.BroadcastsInDim S192x16320 (![] : Fin 0 → Fin S192x16320.rank)
  bcast_S_S4096 : S_.BroadcastsInDim S4096 (![] : Fin 0 → Fin S4096.rank)

variable [Facts]

def fn_part1 {F : FTy → Type} [FloatOps F] (main_v1 : IVec S4096 32) (main_v4 : IVec S256x510 1) (main_v7 : IVec S4096x4096 1) (main_v10 : IVec S4096x192 1) (main_v13 : IVec S192 1) (main_v16 : IVec S192x16320 1) (main_v17 : IVec S4096 32) : IVec S256x510 1 × IVec S4096x4096 1 × IVec S4096x192 1 × IVec S192 1 × IVec S192x16320 1 × IVec S4096 1 :=
  let main_v18 : IVec S4096 1 := cmpi .sge main_v1 main_v17
  let main_c_4 : IVec S_ 32 := constantI S_ 32 256#32
  let main_v19 : IVec S4096 32 := broadcastInDim S4096 ![] bcast_S_S4096 main_c_4
  let main_v20 : IVec S4096 1 := cmpi .slt main_v1 main_v19
  let main_v21 : IVec S4096 1 := andi main_v18 main_v20
  (main_v4, main_v7, main_v10, main_v13, main_v16, main_v21)

def fn {F : FTy → Type} [FloatOps F] (main_arg0 : FVec F S256x510 .f32) (main_arg1 : IVec S2x4096 32) (main_arg2 : IVec S256 32) (main_arg3 : FVec F S4096x4096 .f32) (main_arg4 : FVec F S4096x192 .f32) (main_arg5 : FVec F S192 .f32) (main_arg6 : FVec F S192x16320 .f32) (main_arg7 : FVec F S16320 .f32) (main_arg8 : FVec F S510x32 .f32) (main_arg9 : FVec F S32 .f32) (main_arg10 : FVec F S8192x96 .f32) (main_arg11 : FVec F S96 .f32) (main_arg12 : FVec F S96x48 .f32) (main_arg13 : FVec F S48 .f32) (main_arg14 : FVec F S48x65280 .f32) (main_arg15 : FVec F S65280 .f32) : IVec S256x510 1 × IVec S4096x4096 1 × IVec S4096x192 1 × IVec S192 1 × IVec S192x16320 1 × IVec S4096 1 :=
  let main_v0 : IVec S1x4096 32 := (extractStridedSlice S1x4096 ![0, 0] · slices_S2x4096_S1x4096_0_0) main_arg1
  let main_v1 : IVec S4096 32 := shapeCast S4096 main_v0 shapeCasts_S1x4096_S4096
  let main_v2 : FVec F S256x510 .f32 := Host.absf main_arg0
  let main_cst : FVec F S_ .f32 := constant S_ .f32 0x7F800000#32
  let main_v3 : FVec F S256x510 .f32 := broadcastInDim S256x510 ![] bcast_S_S256x510 main_cst
  let main_v4 : IVec S256x510 1 := cmpf .olt main_v2 main_v3
  let main_v5 : FVec F S4096x4096 .f32 := Host.absf main_arg3
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_v8 : FVec F S4096x192 .f32 := Host.absf main_arg4
  let main_cst_1 : FVec F S_ .f32 := constant S_ .f32 0x7F800000#32
  let main_v9 : FVec F S4096x192 .f32 := broadcastInDim S4096x192 ![] bcast_S_S4096x192 main_cst_1
  let main_v10 : IVec S4096x192 1 := cmpf .olt main_v8 main_v9
  let main_v11 : FVec F S192 .f32 := Host.absf main_arg5
  let main_cst_2 : FVec F S_ .f32 := constant S_ .f32 0x7F800000#32
  let main_v12 : FVec F S192 .f32 := broadcastInDim S192 ![] bcast_S_S192 main_cst_2
  let main_v13 : IVec S192 1 := cmpf .olt main_v11 main_v12
  let main_v14 : FVec F S192x16320 .f32 := Host.absf main_arg6
  let main_cst_3 : FVec F S_ .f32 := constant S_ .f32 0x7F800000#32
  let main_v15 : FVec F S192x16320 .f32 := broadcastInDim S192x16320 ![] bcast_S_S192x16320 main_cst_3
  let main_v16 : IVec S192x16320 1 := cmpf .olt main_v14 main_v15
  let main_c : IVec S_ 32 := constantI S_ 32 0#32
  let main_v17 : IVec S4096 32 := broadcastInDim S4096 ![] bcast_S_S4096 main_c
  fn_part1 (F := F) main_v1 main_v4 main_v7 main_v10 main_v13 main_v16 main_v17
-- ==== Kernel.lean ====
abbrev S256x510 : Shape := ⟨2, ![256, 510]⟩
abbrev S2x4096 : Shape := ⟨2, ![2, 4096]⟩
abbrev S256 : Shape := ⟨1, ![256]⟩
abbrev S4096x4096 : Shape := ⟨2, ![4096, 4096]⟩
abbrev S4096x192 : Shape := ⟨2, ![4096, 192]⟩
abbrev S192 : Shape := ⟨1, ![192]⟩
abbrev S192x16320 : Shape := ⟨2, ![192, 16320]⟩
abbrev S16320 : Shape := ⟨1, ![16320]⟩
abbrev S510x32 : Shape := ⟨2, ![510, 32]⟩
abbrev S32 : Shape := ⟨1, ![32]⟩
abbrev S8192x96 : Shape := ⟨2, ![8192, 96]⟩
abbrev S96 : Shape := ⟨1, ![96]⟩
abbrev S96x48 : Shape := ⟨2, ![96, 48]⟩
abbrev S48 : Shape := ⟨1, ![48]⟩
abbrev S48x65280 : Shape := ⟨2, ![48, 65280]⟩
abbrev S65280 : Shape := ⟨1, ![65280]⟩
abbrev S1x4096 : Shape := ⟨2, ![1, 4096]⟩
abbrev S4096 : Shape := ⟨1, ![4096]⟩
abbrev S4096x1 : Shape := ⟨2, ![4096, 1]⟩
abbrev S16x1x256 : Shape := ⟨3, ![16, 1, 256]⟩
abbrev S1x192 : Shape := ⟨2, ![1, 192]⟩
abbrev S1x32 : Shape := ⟨2, ![1, 32]⟩
abbrev S1x96 : Shape := ⟨2, ![1, 96]⟩
abbrev S1x48 : Shape := ⟨2, ![1, 48]⟩
abbrev S1x65280 : Shape := ⟨2, ![1, 65280]⟩
abbrev S256x128 : Shape := ⟨2, ![256, 128]⟩
abbrev S192x4096 : Shape := ⟨2, ![192, 4096]⟩
abbrev S128x32 : Shape := ⟨2, ![128, 32]⟩
abbrev S256x4096 : Shape := ⟨2, ![256, 4096]⟩
abbrev S256x1 : Shape := ⟨2, ![256, 1]⟩
abbrev S1x1x256 : Shape := ⟨3, ![1, 1, 256]⟩
abbrev S256x6144 : Shape := ⟨2, ![256, 6144]⟩
abbrev S256x32 : Shape := ⟨2, ![256, 32]⟩
abbrev S6144x32 : Shape := ⟨2, ![6144, 32]⟩
abbrev S128x32x192 : Shape := ⟨3, ![128, 32, 192]⟩
abbrev S128x1x192 : Shape := ⟨3, ![128, 1, 192]⟩
abbrev S128x192 : Shape := ⟨2, ![128, 192]⟩
abbrev S128x6144 : Shape := ⟨2, ![128, 6144]⟩
abbrev S256x192 : Shape := ⟨2, ![256, 192]⟩
abbrev S256x256 : Shape := ⟨2, ![256, 256]⟩
abbrev S1x256 : Shape := ⟨2, ![1, 256]⟩
abbrev S8x32x32 : Shape := ⟨3, ![8, 32, 32]⟩
abbrev S8x1x32 : Shape := ⟨3, ![8, 1, 32]⟩
abbrev S8x32 : Shape := ⟨2, ![8, 32]⟩
abbrev S8x1024 : Shape := ⟨2, ![8, 1024]⟩
abbrev S1x8x1024 : Shape := ⟨3, ![1, 8, 1024]⟩
abbrev S1x1x1024 : Shape := ⟨3, ![1, 1, 1024]⟩
abbrev S1x1024 : Shape := ⟨2, ![1, 1024]⟩
abbrev S1x8192 : Shape := ⟨2, ![1, 8192]⟩

abbrev nBuf : Space → Nat
  | .hbm => 29
  | .vmem => 30
  | .smem => 0
  | _ => 0

abbrev bufTy : (tb : Table) → Fin (tcTables nBuf tb) → BufTy
  | .hbm, ⟨0, _⟩ => ⟨S256x510, .f32⟩
  | .hbm, ⟨1, _⟩ => ⟨S2x4096, .i32⟩
  | .hbm, ⟨2, _⟩ => ⟨S256, .i32⟩
  | .hbm, ⟨3, _⟩ => ⟨S4096x4096, .f32⟩
  | .hbm, ⟨4, _⟩ => ⟨S4096x192, .f32⟩
  | .hbm, ⟨5, _⟩ => ⟨S192, .f32⟩
  | .hbm, ⟨6, _⟩ => ⟨S192x16320, .f32⟩
  | .hbm, ⟨7, _⟩ => ⟨S16320, .f32⟩
  | .hbm, ⟨8, _⟩ => ⟨S510x32, .f32⟩
  | .hbm, ⟨9, _⟩ => ⟨S32, .f32⟩
  | .hbm, ⟨10, _⟩ => ⟨S8192x96, .f32⟩
  | .hbm, ⟨11, _⟩ => ⟨S96, .f32⟩
  | .hbm, ⟨12, _⟩ => ⟨S96x48, .f32⟩
  | .hbm, ⟨13, _⟩ => ⟨S48, .f32⟩
  | .hbm, ⟨14, _⟩ => ⟨S48x65280, .f32⟩
  | .hbm, ⟨15, _⟩ => ⟨S65280, .f32⟩
  | .hbm, ⟨16, _⟩ => ⟨S510x32, .f32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S1x4096, .i32⟩
  | .hbm, ⟨21, _⟩ => ⟨S4096, .i32⟩
  | .hbm, ⟨22, _⟩ => ⟨S16x1x256, .i32⟩
  | .hbm, ⟨23, _⟩ => ⟨S1x192, .f32⟩
  | .hbm, ⟨24, _⟩ => ⟨S1x32, .f32⟩
  | .hbm, ⟨25, _⟩ => ⟨S1x96, .f32⟩
  | .hbm, ⟨26, _⟩ => ⟨S1x48, .f32⟩
  | .hbm, ⟨27, _⟩ => ⟨S1x65280, .f32⟩
  | .hbm, ⟨28, _⟩ => ⟨S1x65280, .f32⟩
  | .local _ .vmem, ⟨0, _⟩ => ⟨S256x128, .f32⟩
  | .local _ .vmem, ⟨1, _⟩ => ⟨S256x128, .f32⟩
  | .local _ .vmem, ⟨2, _⟩ => ⟨S192x4096, .f32⟩
  | .local _ .vmem, ⟨3, _⟩ => ⟨S192x4096, .f32⟩
  | .local _ .vmem, ⟨4, _⟩ => ⟨S4096x192, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S1x192, .f32⟩
  | .local _ .vmem, ⟨10, _⟩ => ⟨S256x4096, .f32⟩
  | .local _ .vmem, ⟨11, _⟩ => ⟨S256x4096, .f32⟩
  | .local _ .vmem, ⟨12, _⟩ => ⟨S256x1, .i32⟩
  | .local _ .vmem, ⟨13, _⟩ => ⟨S256x1, .i32⟩
  | .local _ .vmem, ⟨14, _⟩ => ⟨S1x1x256, .i32⟩
  | .local _ .vmem, ⟨15, _⟩ => ⟨S1x1x256, .i32⟩
  | .local _ .vmem, ⟨16, _⟩ => ⟨S1x32, .f32⟩
  | .local _ .vmem, ⟨17, _⟩ => ⟨S8192x96, .f32⟩
  | .local _ .vmem, ⟨18, _⟩ => ⟨S1x96, .f32⟩
  | .local _ .vmem, ⟨19, _⟩ => ⟨S96x48, .f32⟩
  | .local _ .vmem, ⟨20, _⟩ => ⟨S1x48, .f32⟩
  | .local _ .vmem, ⟨21, _⟩ => ⟨S48x65280, .f32⟩
  | .local _ .vmem, ⟨22, _⟩ => ⟨S1x65280, .f32⟩
  | .local _ .vmem, ⟨23, _⟩ => ⟨S1x65280, .f32⟩
  | .local _ .vmem, ⟨24, _⟩ => ⟨S256x6144, .bf16⟩
  | .local _ .vmem, ⟨25, _⟩ => ⟨S4096x192, .bf16⟩
  | .local _ .vmem, ⟨26, _⟩ => ⟨S256x32, .f32⟩
  | .local _ .vmem, ⟨27, _⟩ => ⟨S256x32, .f32⟩
  | .local _ .vmem, ⟨28, _⟩ => ⟨S256x32, .f32⟩
  | .local _ .vmem, ⟨29, _⟩ => ⟨S6144x32, .bf16⟩
  | _, _ => ⟨S256x510, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![20], ![false]⟩

def k0_cond4 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k0_cond7 (i : grid0.Coords) : BitVec 1 :=
  let arg0 : BitVec 32 := BitVec.ofNat 32 (i 0).val
  let c4_i32_2 : BitVec 32 := 4#32
  let v6 : BitVec 32 := Scalar.subi arg0 c4_i32_2
  let c15_i32 : BitVec 32 := 15#32
  let v54 : BitVec 1 := Scalar.cmpi .eq v6 c15_i32
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8192x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S48x65280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x65280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x65280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S256x510 : Shape := ⟨2, ![256, 510]⟩
abbrev S2x4096 : Shape := ⟨2, ![2, 4096]⟩
abbrev S256 : Shape := ⟨1, ![256]⟩
abbrev S4096x4096 : Shape := ⟨2, ![4096, 4096]⟩
abbrev S4096x192 : Shape := ⟨2, ![4096, 192]⟩
abbrev S192 : Shape := ⟨1, ![192]⟩
abbrev S192x16320 : Shape := ⟨2, ![192, 16320]⟩
abbrev S16320 : Shape := ⟨1, ![16320]⟩
abbrev S510x32 : Shape := ⟨2, ![510, 32]⟩
abbrev S32 : Shape := ⟨1, ![32]⟩
abbrev S8192x96 : Shape := ⟨2, ![8192, 96]⟩
abbrev S96 : Shape := ⟨1, ![96]⟩
abbrev S96x48 : Shape := ⟨2, ![96, 48]⟩
abbrev S48 : Shape := ⟨1, ![48]⟩
abbrev S48x65280 : Shape := ⟨2, ![48, 65280]⟩
abbrev S65280 : Shape := ⟨1, ![65280]⟩
abbrev S1x192 : Shape := ⟨2, ![1, 192]⟩
abbrev S_ : Shape := ⟨0, ![]⟩
abbrev S4096x16320 : Shape := ⟨2, ![4096, 16320]⟩
abbrev S1x16320 : Shape := ⟨2, ![1, 16320]⟩
abbrev S4096x510x32 : Shape := ⟨3, ![4096, 510, 32]⟩
abbrev S1x4096 : Shape := ⟨2, ![1, 4096]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S4096x510 : Shape := ⟨2, ![4096, 510]⟩
abbrev S4096x32 : Shape := ⟨2, ![4096, 32]⟩
abbrev S256x32 : Shape := ⟨2, ![256, 32]⟩
abbrev S1x32 : Shape := ⟨2, ![1, 32]⟩
abbrev S1x8192 : Shape := ⟨2, ![1, 8192]⟩
abbrev S1x96 : Shape := ⟨2, ![1, 96]⟩
abbrev S1x48 : Shape := ⟨2, ![1, 48]⟩
abbrev S1x65280 : Shape := ⟨2, ![1, 65280]⟩

abbrev nBuf : Space → Nat
  | .hbm => 87
  | .vmem => 0
  | .smem => 0
  | _ => 0

abbrev bufTy : (tb : Table) → Fin (tcTables nBuf tb) → BufTy
  | .hbm, ⟨0, _⟩ => ⟨S256x510, .f32⟩
  | .hbm, ⟨1, _⟩ => ⟨S2x4096, .i32⟩
  | .hbm, ⟨2, _⟩ => ⟨S256, .i32⟩
  | .hbm, ⟨3, _⟩ => ⟨S4096x4096, .f32⟩
  | .hbm, ⟨4, _⟩ => ⟨S4096x192, .f32⟩
  | .hbm, ⟨5, _⟩ => ⟨S192, .f32⟩
  | .hbm, ⟨6, _⟩ => ⟨S192x16320, .f32⟩
  | .hbm, ⟨7, _⟩ => ⟨S16320, .f32⟩
  | .hbm, ⟨8, _⟩ => ⟨S510x32, .f32⟩
  | .hbm, ⟨9, _⟩ => ⟨S32, .f32⟩
  | .hbm, ⟨10, _⟩ => ⟨S8192x96, .f32⟩
  | .hbm, ⟨11, _⟩ => ⟨S96, .f32⟩
  | .hbm, ⟨12, _⟩ => ⟨S96x48, .f32⟩
  | .hbm, ⟨13, _⟩ => ⟨S48, .f32⟩
  | .hbm, ⟨14, _⟩ => ⟨S48x65280, .f32⟩
  | .hbm, ⟨15, _⟩ => ⟨S65280, .f32⟩
  | .hbm, ⟨16, _⟩ => ⟨S4096x192, .f32⟩
  | .hbm, ⟨17, _⟩ => ⟨S1x192, .f32⟩
  | .hbm, ⟨18, _⟩ => ⟨S4096x192, .f32⟩
  | .hbm, ⟨19, _⟩ => ⟨S4096x192, .f32⟩
  | .hbm, ⟨20, _⟩ => ⟨S_, .f32⟩
  | .hbm, ⟨21, _⟩ => ⟨S4096x192, .f32⟩
  | .hbm, ⟨22, _⟩ => ⟨S4096x192, .f32⟩
  | .hbm, ⟨23, _⟩ => ⟨S4096x16320, .f32⟩
  | .hbm, ⟨24, _⟩ => ⟨S1x16320, .f32⟩
  | .hbm, ⟨25, _⟩ => ⟨S4096x16320, .f32⟩
  | .hbm, ⟨26, _⟩ => ⟨S4096x16320, .f32⟩
  | .hbm, ⟨27, _⟩ => ⟨S4096x510x32, .f32⟩
  | .hbm, ⟨28, _⟩ => ⟨S1x4096, .i32⟩
  | .hbm, ⟨29, _⟩ => ⟨S4096, .i32⟩
  | .hbm, ⟨30, _⟩ => ⟨S1x4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S1, .i32⟩
  | .hbm, ⟨41, _⟩ => ⟨S_, .i32⟩
  | .hbm, ⟨42, _⟩ => ⟨S4096x1, .i32⟩
  | .hbm, ⟨43, _⟩ => ⟨S4096x1, .i1⟩
  | .hbm, ⟨44, _⟩ => ⟨S1x1, .i32⟩
  | .hbm, ⟨45, _⟩ => ⟨S4096x1, .i32⟩
  | .hbm, ⟨46, _⟩ => ⟨S4096x1, .i1⟩
  | .hbm, ⟨47, _⟩ => ⟨S4096x1, .i1⟩
  | .hbm, ⟨48, _⟩ => ⟨S_, .i1⟩
  | .hbm, ⟨49, _⟩ => ⟨S4096, .i1⟩
  | .hbm, ⟨50, _⟩ => ⟨S4096x510, .f32⟩
  | .hbm, ⟨51, _⟩ => ⟨S4096x510, .i1⟩
  | .hbm, ⟨52, _⟩ => ⟨S_, .f32⟩
  | .hbm, ⟨53, _⟩ => ⟨S4096x510, .f32⟩
  | .hbm, ⟨54, _⟩ => ⟨S4096x510, .f32⟩
  | .hbm, ⟨55, _⟩ => ⟨S4096x32, .f32⟩
  | .hbm, ⟨56, _⟩ => ⟨S_, .f32⟩
  | .hbm, ⟨57, _⟩ => ⟨S256x32, .f32⟩
  | .hbm, ⟨58, _⟩ => ⟨S4096x1, .i32⟩
  | .hbm, ⟨59, _⟩ => ⟨S256x32, .f32⟩
  | .hbm, ⟨60, _⟩ => ⟨S256x32, .f32⟩
  | .hbm, ⟨61, _⟩ => ⟨S256x32, .f32⟩
  | .hbm, ⟨62, _⟩ => ⟨S1x32, .f32⟩
  | .hbm, ⟨63, _⟩ => ⟨S256x32, .f32⟩
  | .hbm, ⟨64, _⟩ => ⟨S256x32, .f32⟩
  | .hbm, ⟨65, _⟩ => ⟨S_, .f32⟩
  | .hbm, ⟨66, _⟩ => ⟨S256x32, .f32⟩
  | .hbm, ⟨67, _⟩ => ⟨S256x32, .f32⟩
  | .hbm, ⟨68, _⟩ => ⟨S1x8192, .f32⟩
  | .hbm, ⟨69, _⟩ => ⟨S1x96, .f32⟩
  | .hbm, ⟨70, _⟩ => ⟨S1x96, .f32⟩
  | .hbm, ⟨71, _⟩ => ⟨S1x96, .f32⟩
  | .hbm, ⟨72, _⟩ => ⟨S_, .f32⟩
  | .hbm, ⟨73, _⟩ => ⟨S1x96, .f32⟩
  | .hbm, ⟨74, _⟩ => ⟨S1x96, .f32⟩
  | .hbm, ⟨75, _⟩ => ⟨S1x48, .f32⟩
  | .hbm, ⟨76, _⟩ => ⟨S1x48, .f32⟩
  | .hbm, ⟨77, _⟩ => ⟨S1x48, .f32⟩
  | .hbm, ⟨78, _⟩ => ⟨S_, .f32⟩
  | .hbm, ⟨79, _⟩ => ⟨S1x48, .f32⟩
  | .hbm, ⟨80, _⟩ => ⟨S1x48, .f32⟩
  | .hbm, ⟨81, _⟩ => ⟨S1x65280, .f32⟩
  | .hbm, ⟨82, _⟩ => ⟨S1x65280, .f32⟩
  | .hbm, ⟨83, _⟩ => ⟨S1x65280, .f32⟩
  | .hbm, ⟨84, _⟩ => ⟨S_, .f32⟩
  | .hbm, ⟨85, _⟩ => ⟨S1x65280, .f32⟩
  | .hbm, ⟨86, _⟩ => ⟨S1x65280, .f32⟩
  | _, _ => ⟨S256x510, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v14 : Ref sig .tc := ⟨.hbm, 54, rfl⟩
abbrev main_v15 : Ref sig .tc := ⟨.hbm, 55, rfl⟩
abbrev main_cst : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call2_cst : Ref sig .tc := ⟨.hbm, 65, rfl⟩
abbrev main_call2_v0 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call3_cst : Ref sig .tc := ⟨.hbm, 72, rfl⟩
abbrev main_call3_v0 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_call4_cst : Ref sig .tc := ⟨.hbm, 78, rfl⟩
abbrev main_call4_v0 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call5_cst : Ref sig .tc := ⟨.hbm, 84, rfl⟩
abbrev main_call5_v0 : Ref sig .tc := ⟨.hbm, 85, rfl⟩
abbrev main_v37 : Ref sig .tc := ⟨.hbm, 86, rfl⟩

abbrev nD : Nat := 1
abbrev τ : Topo := Topo.v7x

variable {F : FTy → Type} [FloatOps F]
-- ==== Proof.BodiesK.lean ====
/- The five kinds of point, together. -/
module

public import proofs.«01_k».proof.Proof.BodyAK
public import proofs.«01_k».proof.Proof.BodyBK
public import proofs.«01_k».proof.Proof.BodyCK
public import proofs.«01_k».proof.Proof.BodyDK
public import proofs.«01_k».proof.Proof.BodyEK
-- ==== Proof.StepKI.lean ====
/- What each kind of grid point computes, as functions of the blocks it reads and of the scratch, and which point is of which kind. -/
module

public import proofs.«01_k».proof.Proof.Gen.KernelIdeal.Frame
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.DatRel
public import Idealize.ShloMosaic.Lib.VecWindow
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

/-- What the six scratch buffers hold: the expanded node matrix `gn`, the rounded first weight `w1b`, the two
    products `xb` and `xr` of the nodes with the second layer's bias and with the root weight, the aggregate `agg`
    and the 0/1 matrix `sel` that adds the 192 lanes of one output channel. -/
structure Scr (F : FTy → Type) [FloatOps F] where
  gn : Vec F S256x6144 .bf16
  w1b : Vec F S4096x192 .bf16
  xb : Vec F S256x32 .f32
  xr : Vec F S256x32 .f32
  agg : Vec F S256x32 .f32
  sel : Vec F S6144x32 .bf16

/-- The grid point as the body reads it. -/
abbrev pt (i : grid0.Coords) : BitVec 32 := BitVec.ofNat 32 (i 0).val

/-- What a node point adds to the expanded node matrix, -/
def contrib (i : grid0.Coords) (x0 : Vec F S256x128 .f32) (x1 : Vec F S192x4096 .f32) : FVec F S256x6144 .f32 :=
  k0_pay38 (pt i) (k0_pay15 (pt i) x1) (k0_pay16 (pt i) x1) (k0_pay17 (pt i) x1) (k0_pay18 (pt i) x1) (k0_pay19 (pt i) x1) (k0_pay20 (pt i) x1) (k0_pay21 (pt i) x1) (k0_pay22 (pt i) x1) (k0_pay23 (pt i) x1) (k0_pay24 (pt i) x1) (k0_pay25 (pt i) x1) (k0_pay26 (pt i) x1) (k0_pay27 (pt i) x1) (k0_pay28 (pt i) x1) (k0_pay29 (pt i) x1) (k0_pay30 (pt i) x1) (k0_pay31 (pt i) x1) (k0_pay32 (pt i) x1) (k0_pay33 (pt i) x1) (k0_pay34 (pt i) x1) (k0_pay35 (pt i) x1) (k0_pay36 (pt i) x1) x0

/-- and to the nodes' products with the bias and with the root weight. -/
def xbTerm (i : grid0.Coords) (x0 : Vec F S256x128 .f32) (x3 : Vec F S128x32 .f32) : FVec F S256x32 .f32 := k0_pay39 (pt i) x0 x3
def xrTerm (i : grid0.Coords) (x0 : Vec F S256x128 .f32) (x4 : Vec F S128x32 .f32) : FVec F S256x32 .f32 := k0_pay40 (pt i) x0 x4

/-- The 0/1 matrix the first point builds. -/
def selMat : Vec F S6144x32 .bf16 := k0_pay41 (F := F) k0_pay12 k0_pay13 k0_pay14

/-- The scratch after the first node point, -/
def stepA (i : grid0.Coords) (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (s : Scr F) : Scr F :=
  ⟨k0_pay8 (contrib i x0 x1), k0_pay11 x2, k0_pay9 (xbTerm i x0 x3), k0_pay10 (xrTerm i x0 x4), s.agg, selMat⟩

/-- after a later node point, -/
def stepB (i : grid0.Coords) (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (s : Scr F) : Scr F :=
  ⟨k0_pay1 (contrib i x0 x1) s.gn, s.w1b, k0_pay2 (xbTerm i x0 x3) s.xb, k0_pay3 (xrTerm i x0 x4) s.xr, s.agg, s.sel⟩

/-- after the first edge point, -/
def stepC (i : grid0.Coords) (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (s : Scr F) : Scr F :=
  ⟨s.gn, s.w1b, s.xb, s.xr, k0_pay5 (k0_pay67 x7) (k0_pay68 x8) (k0_pay69 x6 s.w1b x5 x7 s.gn s.sel) s.xb, s.sel⟩

/-- and after a later one. -/
def stepD (i : grid0.Coords) (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (s : Scr F) : Scr F :=
  ⟨s.gn, s.w1b, s.xb, s.xr, k0_pay6 (k0_pay67 x7) (k0_pay68 x8) (k0_pay69 x6 s.w1b x5 x7 s.gn s.sel) s.xb s.agg, s.sel⟩

/-- The head of the network, of the scratch as the last point leaves it. -/
def headOut (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (s : Scr F) : Vec F S1x65280 .f32 :=
  k0_pay7 (k0_pay65 (k0_pay42 s.xr s.agg x9) (k0_pay43 s.xr s.agg x9) (k0_pay44 s.xr s.agg x9) (k0_pay45 s.xr s.agg x9) (k0_pay46 s.xr s.agg x9) (k0_pay47 s.xr s.agg x9) (k0_pay48 s.xr s.agg x9) (k0_pay49 s.xr s.agg x9) (k0_pay50 s.xr s.agg x9) (k0_pay51 s.xr s.agg x9) (k0_pay52 s.xr s.agg x9) (k0_pay53 s.xr s.agg x9) (k0_pay54 s.xr s.agg x9) (k0_pay55 s.xr s.agg x9) (k0_pay56 s.xr s.agg x9) (k0_pay57 s.xr s.agg x9) (k0_pay58 s.xr s.agg x9) (k0_pay59 s.xr s.agg x9) (k0_pay60 s.xr s.agg x9) (k0_pay61 s.xr s.agg x9) (k0_pay62 s.xr s.agg x9) (k0_pay63 s.xr s.agg x9) (k0_pay64 s.xr s.agg x9) x10 x11 x12) x13 x14 x15

/-! The seven conditions of the body, and where on the grid each holds. -/

abbrev cnd0 (i : grid0.Coords) : Prop := (Scalar.cmpi .ne (Scalar.extui (Scalar.cmpi .slt (pt i) 4#32)) 0#32) = 1#1
theorem cnd0_iff : ∀ t : Fin cfg0.N, cnd0 (grid0.coords t) ↔ t.val < 4 :=
  (by decide +kernel : ∀ t : Fin grid0.N, cnd0 (grid0.coords t) ↔ t.val < 4)
abbrev cnd1 (i : grid0.Coords) : Prop := (Scalar.cmpi .ne (Scalar.extui (Scalar.cmpi .eq (pt i) 0#32)) 0#32) = 1#1
theorem cnd1_iff : ∀ t : Fin cfg0.N, cnd1 (grid0.coords t) ↔ t.val = 0 :=
  (by decide +kernel : ∀ t : Fin grid0.N, cnd1 (grid0.coords t) ↔ t.val = 0)
abbrev cnd2 (i : grid0.Coords) : Prop := (Scalar.cmpi .ne (Scalar.extui (Scalar.cmpi .sgt (pt i) 0#32)) 0#32) = 1#1
theorem cnd2_iff : ∀ t : Fin cfg0.N, cnd2 (grid0.coords t) ↔ 1 ≤ t.val :=
  (by decide +kernel : ∀ t : Fin grid0.N, cnd2 (grid0.coords t) ↔ 1 ≤ t.val)
abbrev cnd3 (i : grid0.Coords) : Prop := k0_cond4 i = 1#1
theorem cnd3_iff : ∀ t : Fin cfg0.N, cnd3 (grid0.coords t) ↔ 4 ≤ t.val :=
  (by decide +kernel : ∀ t : Fin grid0.N, cnd3 (grid0.coords t) ↔ 4 ≤ t.val)
abbrev cnd4 (i : grid0.Coords) : Prop := (Scalar.cmpi .ne (Scalar.extui (Scalar.cmpi .eq (Scalar.subi (pt i) 4#32) 0#32)) 0#32) = 1#1
theorem cnd4_iff : ∀ t : Fin cfg0.N, cnd4 (grid0.coords t) ↔ t.val = 4 :=
  (by decide +kernel : ∀ t : Fin grid0.N, cnd4 (grid0.coords t) ↔ t.val = 4)
abbrev cnd5 (i : grid0.Coords) : Prop := (Scalar.cmpi .ne (Scalar.extui (Scalar.cmpi .sgt (Scalar.subi (pt i) 4#32) 0#32)) 0#32) = 1#1
theorem cnd5_iff : ∀ t : Fin cfg0.N, cnd5 (grid0.coords t) ↔ 5 ≤ t.val :=
  (by decide +kernel : ∀ t : Fin grid0.N, cnd5 (grid0.coords t) ↔ 5 ≤ t.val)
abbrev cnd6 (i : grid0.Coords) : Prop := k0_cond7 i = 1#1
theorem cnd6_iff : ∀ t : Fin cfg0.N, cnd6 (grid0.coords t) ↔ t.val = 19 :=
  (by decide +kernel : ∀ t : Fin grid0.N, cnd6 (grid0.coords t) ↔ t.val = 19)

theorem pt_coords : ∀ t : Fin cfg0.N, pt (grid0.coords t) = BitVec.ofNat 32 t.val :=
  (by decide +kernel : ∀ t : Fin grid0.N, pt (grid0.coords t) = BitVec.ofNat 32 t.val)

/-- The result is stored, and written back, at the last point only. -/
theorem idle16 : ∀ t : Fin cfg0.N, t.val < 19 → cfg0.idle 16 (grid0.coords t) = true :=
  (by decide +kernel : ∀ t : Fin cfg0.N, t.val < 19 → cfg0.idle 16 (grid0.coords t) = true)
theorem noFlush16 : ∀ t : Fin cfg0.N, t.val < 19 → (cfg0.win 16).flush t = false :=
  (by decide +kernel : ∀ t : Fin cfg0.N, t.val < 19 → (cfg0.win 16).flush t = false)

end Cert.KernelIdeal.Body

end
-- ==== Proof.BodyAKI.lean ====
/- The body's run at the first point: the node table, its two products and the selection matrix are started. -/
module

public import proofs.«01_k».proof.Proof.StepKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

set_option maxHeartbeats 1600000 in
/-- The body at the first node point. -/
theorem body_A (c : Dev nD) (i : grid0.Coords) (arg1 : Memref sig .tc .vmem S256x128 .f32) (harg1 : arg1.IsWhole) (arg2 : Memref sig .tc .vmem S192x4096 .f32) (harg2 : arg2.IsWhole) (arg3 : Memref sig .tc .vmem S4096x192 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x192 .f32) (harg6 : arg6.IsWhole) (arg7 : Memref sig .tc .vmem S256x4096 .f32) (harg7 : arg7.IsWhole) (arg8 : Memref sig .tc .vmem S256x1 .i32) (harg8 : arg8.IsWhole) (arg9 : Memref sig .tc .vmem S1x1x256 .i32) (harg9 : arg9.IsWhole) (arg10 : Memref sig .tc .vmem S1x32 .f32) (harg10 : arg10.IsWhole) (arg11 : Memref sig .tc .vmem S8192x96 .f32) (harg11 : arg11.IsWhole) (arg12 : Memref sig .tc .vmem S1x96 .f32) (harg12 : arg12.IsWhole) (arg13 : Memref sig .tc .vmem S96x48 .f32) (harg13 : arg13.IsWhole) (arg14 : Memref sig .tc .vmem S1x48 .f32) (harg14 : arg14.IsWhole) (arg15 : Memref sig .tc .vmem S48x65280 .f32) (harg15 : arg15.IsWhole) (arg16 : Memref sig .tc .vmem S1x65280 .f32) (harg16 : arg16.IsWhole) (arg17 : Memref sig .tc .vmem S1x65280 .f32) (harg17 : arg17.IsWhole) (arg18 : Memref sig .tc .vmem S256x6144 .bf16) (harg18 : arg18.IsWhole) (arg19 : Memref sig .tc .vmem S4096x192 .bf16) (harg19 : arg19.IsWhole) (arg20 : Memref sig .tc .vmem S256x32 .f32) (harg20 : arg20.IsWhole) (arg21 : Memref sig .tc .vmem S256x32 .f32) (harg21 : arg21.IsWhole) (arg22 : Memref sig .tc .vmem S256x32 .f32) (harg22 : arg22.IsWhole) (arg23 : Memref sig .tc .vmem S6144x32 .bf16) (harg23 : arg23.IsWhole) (hc0 : cnd0 i) (hc1 : cnd1 i) (hc2 : ¬cnd2 i) (hc3 : ¬cnd3 i)
    (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (x16 : Vec F S1x65280 .f32) (s : Scr F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare s.gn ∗ owns (c : Thread nD τ) arg19 fullShare s.w1b ∗ owns (c : Thread nD τ) arg20 fullShare s.xb ∗ owns (c : Thread nD τ) arg21 fullShare s.xr ∗ owns (c : Thread nD τ) arg22 fullShare s.agg ∗ owns (c : Thread nD τ) arg23 fullShare s.sel
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (stepA i x0 x1 x2 x3 x4 x5 x6 x7 x8 x9 x10 x11 x12 x13 x14 x15 s).gn ∗ owns (c : Thread nD τ) arg19 fullShare (stepA i x0 x1 x2 x3 x4 x5 x6 x7 x8 x9 x10 x11 x12 x13 x14 x15 s).w1b ∗ owns (c : Thread nD τ) arg20 fullShare (stepA i x0 x1 x2 x3 x4 x5 x6 x7 x8 x9 x10 x11 x12 x13 x14 x15 s).xb ∗ owns (c : Thread nD τ) arg21 fullShare (stepA i x0 x1 x2 x3 x4 x5 x6 x7 x8 x9 x10 x11 x12 x13 x14 x15 s).xr ∗ owns (c : Thread nD τ) arg22 fullShare (stepA i x0 x1 x2 x3 x4 x5 x6 x7 x8 x9 x10 x11 x12 x13 x14 x15 s).agg ∗ owns (c : Thread nD τ) arg23 fullShare (stepA i x0 x1 x2 x3 x4 x5 x6 x7 x8 x9 x10 x11 x12 x13 x14 x15 s).sel) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨gn, w1b, xb, xr, agg, sel⟩ := s
  simp only [cc0__main_body_eq_skeleton]; unfold cc0__main_body_skel
  simp only [k0_part2_eq_skeleton, k0_part3_eq_skeleton, k0_part1_eq_skeleton]
  unfold stepA contrib xbTerm xrTerm selMat pt
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; exact harg16.read_unread _
  isplitl [H16]
  · iexists _; isplitr; swap; · iexact H16
    ipureintro; exact harg17.read_unread _
  isplitl [H17]
  · iexists _; isplitr; swap; · iexact H17
    ipureintro; (try delta body_A.sl.r_25); (try delta body_A.sl.r_24); (try delta body_A.sl.r_23); (try delta body_A.sl.r_22); (try delta body_A.sl.r_21); (try delta body_A.sl.r_20); (try delta body_A.sl.r_19); (try delta body_A.sl.r_18); (try delta body_A.sl.r_17); (try delta body_A.sl.r_16); (try delta body_A.sl.r_15); (try delta body_A.sl.r_14); (try delta body_A.sl.r_13); (try delta body_A.sl.r_12); (try delta body_A.sl.r_11); (try delta body_A.sl.r_10); (try delta body_A.sl.r_9); (try delta body_A.sl.r_8); (try delta body_A.sl.r_7); (try delta body_A.sl.r_6); (try delta body_A.sl.r_5); (try delta body_A.sl.r_4); (try delta body_A.sl.r_3); (try delta body_A.sl.r_2); (try delta body_A.sl.r_1); (try delta body_A.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H18]
  · iexists _; isplitr; swap; · iexact H18
    ipureintro; (try delta body_A.sl.r_25); (try delta body_A.sl.r_24); (try delta body_A.sl.r_23); (try delta body_A.sl.r_22); (try delta body_A.sl.r_21); (try delta body_A.sl.r_20); (try delta body_A.sl.r_19); (try delta body_A.sl.r_18); (try delta body_A.sl.r_17); (try delta body_A.sl.r_16); (try delta body_A.sl.r_15); (try delta body_A.sl.r_14); (try delta body_A.sl.r_13); (try delta body_A.sl.r_12); (try delta body_A.sl.r_11); (try delta body_A.sl.r_10); (try delta body_A.sl.r_9); (try delta body_A.sl.r_8); (try delta body_A.sl.r_7); (try delta body_A.sl.r_6); (try delta body_A.sl.r_5); (try delta body_A.sl.r_4); (try delta body_A.sl.r_3); (try delta body_A.sl.r_2); (try delta body_A.sl.r_1); (try delta body_A.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H19]
  · iexists _; isplitr; swap; · iexact H19
    ipureintro; (try delta body_A.sl.r_25); (try delta body_A.sl.r_24); (try delta body_A.sl.r_23); (try delta body_A.sl.r_22); (try delta body_A.sl.r_21); (try delta body_A.sl.r_20); (try delta body_A.sl.r_19); (try delta body_A.sl.r_18); (try delta body_A.sl.r_17); (try delta body_A.sl.r_16); (try delta body_A.sl.r_15); (try delta body_A.sl.r_14); (try delta body_A.sl.r_13); (try delta body_A.sl.r_12); (try delta body_A.sl.r_11); (try delta body_A.sl.r_10); (try delta body_A.sl.r_9); (try delta body_A.sl.r_8); (try delta body_A.sl.r_7); (try delta body_A.sl.r_6); (try delta body_A.sl.r_5); (try delta body_A.sl.r_4); (try delta body_A.sl.r_3); (try delta body_A.sl.r_2); (try delta body_A.sl.r_1); (try delta body_A.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H20]
  · iexists _; isplitr; swap; · iexact H20
    ipureintro; (try delta body_A.sl.r_25); (try delta body_A.sl.r_24); (try delta body_A.sl.r_23); (try delta body_A.sl.r_22); (try delta body_A.sl.r_21); (try delta body_A.sl.r_20); (try delta body_A.sl.r_19); (try delta body_A.sl.r_18); (try delta body_A.sl.r_17); (try delta body_A.sl.r_16); (try delta body_A.sl.r_15); (try delta body_A.sl.r_14); (try delta body_A.sl.r_13); (try delta body_A.sl.r_12); (try delta body_A.sl.r_11); (try delta body_A.sl.r_10); (try delta body_A.sl.r_9); (try delta body_A.sl.r_8); (try delta body_A.sl.r_7); (try delta body_A.sl.r_6); (try delta body_A.sl.r_5); (try delta body_A.sl.r_4); (try delta body_A.sl.r_3); (try delta body_A.sl.r_2); (try delta body_A.sl.r_1); (try delta body_A.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H21]
  · iexists _; isplitr; swap; · iexact H21
    ipureintro; exact harg22.read_unread _
  iexists _; isplitr; swap; · iexact H22
  ipureintro; (try delta body_A.sl.r_25); (try delta body_A.sl.r_24); (try delta body_A.sl.r_23); (try delta body_A.sl.r_22); (try delta body_A.sl.r_21); (try delta body_A.sl.r_20); (try delta body_A.sl.r_19); (try delta body_A.sl.r_18); (try delta body_A.sl.r_17); (try delta body_A.sl.r_16); (try delta body_A.sl.r_15); (try delta body_A.sl.r_14); (try delta body_A.sl.r_13); (try delta body_A.sl.r_12); (try delta body_A.sl.r_11); (try delta body_A.sl.r_10); (try delta body_A.sl.r_9); (try delta body_A.sl.r_8); (try delta body_A.sl.r_7); (try delta body_A.sl.r_6); (try delta body_A.sl.r_5); (try delta body_A.sl.r_4); (try delta body_A.sl.r_3); (try delta body_A.sl.r_2); (try delta body_A.sl.r_1); (try delta body_A.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)

end Cert.KernelIdeal.Body

end
-- ==== Proof.BodyBKI.lean ====
/- The body's run at a later node point: the running sums take up one more block of columns. -/
module

public import proofs.«01_k».proof.Proof.StepKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

set_option maxHeartbeats 1600000 in
/-- The body at a later node point. -/
theorem body_B (c : Dev nD) (i : grid0.Coords) (arg1 : Memref sig .tc .vmem S256x128 .f32) (harg1 : arg1.IsWhole) (arg2 : Memref sig .tc .vmem S192x4096 .f32) (harg2 : arg2.IsWhole) (arg3 : Memref sig .tc .vmem S4096x192 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x192 .f32) (harg6 : arg6.IsWhole) (arg7 : Memref sig .tc .vmem S256x4096 .f32) (harg7 : arg7.IsWhole) (arg8 : Memref sig .tc .vmem S256x1 .i32) (harg8 : arg8.IsWhole) (arg9 : Memref sig .tc .vmem S1x1x256 .i32) (harg9 : arg9.IsWhole) (arg10 : Memref sig .tc .vmem S1x32 .f32) (harg10 : arg10.IsWhole) (arg11 : Memref sig .tc .vmem S8192x96 .f32) (harg11 : arg11.IsWhole) (arg12 : Memref sig .tc .vmem S1x96 .f32) (harg12 : arg12.IsWhole) (arg13 : Memref sig .tc .vmem S96x48 .f32) (harg13 : arg13.IsWhole) (arg14 : Memref sig .tc .vmem S1x48 .f32) (harg14 : arg14.IsWhole) (arg15 : Memref sig .tc .vmem S48x65280 .f32) (harg15 : arg15.IsWhole) (arg16 : Memref sig .tc .vmem S1x65280 .f32) (harg16 : arg16.IsWhole) (arg17 : Memref sig .tc .vmem S1x65280 .f32) (harg17 : arg17.IsWhole) (arg18 : Memref sig .tc .vmem S256x6144 .bf16) (harg18 : arg18.IsWhole) (arg19 : Memref sig .tc .vmem S4096x192 .bf16) (harg19 : arg19.IsWhole) (arg20 : Memref sig .tc .vmem S256x32 .f32) (harg20 : arg20.IsWhole) (arg21 : Memref sig .tc .vmem S256x32 .f32) (harg21 : arg21.IsWhole) (arg22 : Memref sig .tc .vmem S256x32 .f32) (harg22 : arg22.IsWhole) (arg23 : Memref sig .tc .vmem S6144x32 .bf16) (harg23 : arg23.IsWhole) (hc0 : cnd0 i) (hc1 : ¬cnd1 i) (hc2 : cnd2 i) (hc3 : ¬cnd3 i)
    (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (x16 : Vec F S1x65280 .f32) (s : Scr F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare s.gn ∗ owns (c : Thread nD τ) arg19 fullShare s.w1b ∗ owns (c : Thread nD τ) arg20 fullShare s.xb ∗ owns (c : Thread nD τ) arg21 fullShare s.xr ∗ owns (c : Thread nD τ) arg22 fullShare s.agg ∗ owns (c : Thread nD τ) arg23 fullShare s.sel
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (stepB i x0 x1 x2 x3 x4 x5 x6 x7 x8 x9 x10 x11 x12 x13 x14 x15 s).gn ∗ owns (c : Thread nD τ) arg19 fullShare (stepB i x0 x1 x2 x3 x4 x5 x6 x7 x8 x9 x10 x11 x12 x13 x14 x15 s).w1b ∗ owns (c : Thread nD τ) arg20 fullShare (stepB i x0 x1 x2 x3 x4 x5 x6 x7 x8 x9 x10 x11 x12 x13 x14 x15 s).xb ∗ owns (c : Thread nD τ) arg21 fullShare (stepB i x0 x1 x2 x3 x4 x5 x6 x7 x8 x9 x10 x11 x12 x13 x14 x15 s).xr ∗ owns (c : Thread nD τ) arg22 fullShare (stepB i x0 x1 x2 x3 x4 x5 x6 x7 x8 x9 x10 x11 x12 x13 x14 x15 s).agg ∗ owns (c : Thread nD τ) arg23 fullShare (stepB i x0 x1 x2 x3 x4 x5 x6 x7 x8 x9 x10 x11 x12 x13 x14 x15 s).sel) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨gn, w1b, xb, xr, agg, sel⟩ := s
  simp only [cc0__main_body_eq_skeleton]; unfold cc0__main_body_skel
  simp only [k0_part2_eq_skeleton, k0_part3_eq_skeleton]
  unfold stepB contrib xbTerm xrTerm pt
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; exact harg16.read_unread _
  isplitl [H16]
  · iexists _; isplitr; swap; · iexact H16
    ipureintro; exact harg17.read_unread _
  isplitl [H17]
  · iexists _; isplitr; swap; · iexact H17
    ipureintro; (try delta body_B.sl.r_25); (try delta body_B.sl.r_24); (try delta body_B.sl.r_23); (try delta body_B.sl.r_22); (try delta body_B.sl.r_21); (try delta body_B.sl.r_20); (try delta body_B.sl.r_19); (try delta body_B.sl.r_18); (try delta body_B.sl.r_17); (try delta body_B.sl.r_16); (try delta body_B.sl.r_15); (try delta body_B.sl.r_14); (try delta body_B.sl.r_13); (try delta body_B.sl.r_12); (try delta body_B.sl.r_11); (try delta body_B.sl.r_10); (try delta body_B.sl.r_9); (try delta body_B.sl.r_8); (try delta body_B.sl.r_7); (try delta body_B.sl.r_6); (try delta body_B.sl.r_5); (try delta body_B.sl.r_4); (try delta body_B.sl.r_3); (try delta body_B.sl.r_2); (try delta body_B.sl.r_1); (try delta body_B.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H18]
  · iexists _; isplitr; swap; · iexact H18
    ipureintro; exact harg19.read_unread _
  isplitl [H19]
  · iexists _; isplitr; swap; · iexact H19
    ipureintro; (try delta body_B.sl.r_25); (try delta body_B.sl.r_24); (try delta body_B.sl.r_23); (try delta body_B.sl.r_22); (try delta body_B.sl.r_21); (try delta body_B.sl.r_20); (try delta body_B.sl.r_19); (try delta body_B.sl.r_18); (try delta body_B.sl.r_17); (try delta body_B.sl.r_16); (try delta body_B.sl.r_15); (try delta body_B.sl.r_14); (try delta body_B.sl.r_13); (try delta body_B.sl.r_12); (try delta body_B.sl.r_11); (try delta body_B.sl.r_10); (try delta body_B.sl.r_9); (try delta body_B.sl.r_8); (try delta body_B.sl.r_7); (try delta body_B.sl.r_6); (try delta body_B.sl.r_5); (try delta body_B.sl.r_4); (try delta body_B.sl.r_3); (try delta body_B.sl.r_2); (try delta body_B.sl.r_1); (try delta body_B.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H20]
  · iexists _; isplitr; swap; · iexact H20
    ipureintro; (try delta body_B.sl.r_25); (try delta body_B.sl.r_24); (try delta body_B.sl.r_23); (try delta body_B.sl.r_22); (try delta body_B.sl.r_21); (try delta body_B.sl.r_20); (try delta body_B.sl.r_19); (try delta body_B.sl.r_18); (try delta body_B.sl.r_17); (try delta body_B.sl.r_16); (try delta body_B.sl.r_15); (try delta body_B.sl.r_14); (try delta body_B.sl.r_13); (try delta body_B.sl.r_12); (try delta body_B.sl.r_11); (try delta body_B.sl.r_10); (try delta body_B.sl.r_9); (try delta body_B.sl.r_8); (try delta body_B.sl.r_7); (try delta body_B.sl.r_6); (try delta body_B.sl.r_5); (try delta body_B.sl.r_4); (try delta body_B.sl.r_3); (try delta body_B.sl.r_2); (try delta body_B.sl.r_1); (try delta body_B.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H21]
  · iexists _; isplitr; swap; · iexact H21
    ipureintro; exact harg22.read_unread _
  iexists _; isplitr; swap; · iexact H22
  ipureintro; exact harg23.read_unread _

end Cert.KernelIdeal.Body

end
-- ==== Proof.BodyCKI.lean ====
/- The body's run at the first edge point: the aggregate is started. -/
module

public import proofs.«01_k».proof.Proof.StepKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

set_option maxHeartbeats 1600000 in
/-- The body at the first edge point. -/
theorem body_C (c : Dev nD) (i : grid0.Coords) (arg1 : Memref sig .tc .vmem S256x128 .f32) (harg1 : arg1.IsWhole) (arg2 : Memref sig .tc .vmem S192x4096 .f32) (harg2 : arg2.IsWhole) (arg3 : Memref sig .tc .vmem S4096x192 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x192 .f32) (harg6 : arg6.IsWhole) (arg7 : Memref sig .tc .vmem S256x4096 .f32) (harg7 : arg7.IsWhole) (arg8 : Memref sig .tc .vmem S256x1 .i32) (harg8 : arg8.IsWhole) (arg9 : Memref sig .tc .vmem S1x1x256 .i32) (harg9 : arg9.IsWhole) (arg10 : Memref sig .tc .vmem S1x32 .f32) (harg10 : arg10.IsWhole) (arg11 : Memref sig .tc .vmem S8192x96 .f32) (harg11 : arg11.IsWhole) (arg12 : Memref sig .tc .vmem S1x96 .f32) (harg12 : arg12.IsWhole) (arg13 : Memref sig .tc .vmem S96x48 .f32) (harg13 : arg13.IsWhole) (arg14 : Memref sig .tc .vmem S1x48 .f32) (harg14 : arg14.IsWhole) (arg15 : Memref sig .tc .vmem S48x65280 .f32) (harg15 : arg15.IsWhole) (arg16 : Memref sig .tc .vmem S1x65280 .f32) (harg16 : arg16.IsWhole) (arg17 : Memref sig .tc .vmem S1x65280 .f32) (harg17 : arg17.IsWhole) (arg18 : Memref sig .tc .vmem S256x6144 .bf16) (harg18 : arg18.IsWhole) (arg19 : Memref sig .tc .vmem S4096x192 .bf16) (harg19 : arg19.IsWhole) (arg20 : Memref sig .tc .vmem S256x32 .f32) (harg20 : arg20.IsWhole) (arg21 : Memref sig .tc .vmem S256x32 .f32) (harg21 : arg21.IsWhole) (arg22 : Memref sig .tc .vmem S256x32 .f32) (harg22 : arg22.IsWhole) (arg23 : Memref sig .tc .vmem S6144x32 .bf16) (harg23 : arg23.IsWhole) (hc0 : ¬cnd0 i) (hc3 : cnd3 i) (hc4 : cnd4 i) (hc5 : ¬cnd5 i) (hc6 : ¬cnd6 i)
    (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (x16 : Vec F S1x65280 .f32) (s : Scr F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare s.gn ∗ owns (c : Thread nD τ) arg19 fullShare s.w1b ∗ owns (c : Thread nD τ) arg20 fullShare s.xb ∗ owns (c : Thread nD τ) arg21 fullShare s.xr ∗ owns (c : Thread nD τ) arg22 fullShare s.agg ∗ owns (c : Thread nD τ) arg23 fullShare s.sel
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (stepC i x0 x1 x2 x3 x4 x5 x6 x7 x8 x9 x10 x11 x12 x13 x14 x15 s).gn ∗ owns (c : Thread nD τ) arg19 fullShare (stepC i x0 x1 x2 x3 x4 x5 x6 x7 x8 x9 x10 x11 x12 x13 x14 x15 s).w1b ∗ owns (c : Thread nD τ) arg20 fullShare (stepC i x0 x1 x2 x3 x4 x5 x6 x7 x8 x9 x10 x11 x12 x13 x14 x15 s).xb ∗ owns (c : Thread nD τ) arg21 fullShare (stepC i x0 x1 x2 x3 x4 x5 x6 x7 x8 x9 x10 x11 x12 x13 x14 x15 s).xr ∗ owns (c : Thread nD τ) arg22 fullShare (stepC i x0 x1 x2 x3 x4 x5 x6 x7 x8 x9 x10 x11 x12 x13 x14 x15 s).agg ∗ owns (c : Thread nD τ) arg23 fullShare (stepC i x0 x1 x2 x3 x4 x5 x6 x7 x8 x9 x10 x11 x12 x13 x14 x15 s).sel) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨gn, w1b, xb, xr, agg, sel⟩ := s
  simp only [cc0__main_body_eq_skeleton]; unfold cc0__main_body_skel
  simp only [k0_part6_eq_skeleton]
  unfold stepC
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc3 | sl_exact hc4 | sl_exact hc5 | sl_exact hc6)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; exact harg16.read_unread _
  isplitl [H16]
  · iexists _; isplitr; swap; · iexact H16
    ipureintro; exact harg17.read_unread _
  isplitl [H17]
  · iexists _; isplitr; swap; · iexact H17
    ipureintro; exact harg18.read_unread _
  isplitl [H18]
  · iexists _; isplitr; swap; · iexact H18
    ipureintro; exact harg19.read_unread _
  isplitl [H19]
  · iexists _; isplitr; swap; · iexact H19
    ipureintro; exact harg20.read_unread _
  isplitl [H20]
  · iexists _; isplitr; swap; · iexact H20
    ipureintro; exact harg21.read_unread _
  isplitl [H21]
  · iexists _; isplitr; swap; · iexact H21
    ipureintro; (try delta body_C.sl.v58); (try delta body_C.sl.H21_1); (try delta body_C.sl.r_2); (try delta body_C.sl.r_1); (try delta body_C.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  iexists _; isplitr; swap; · iexact H22
  ipureintro; exact harg23.read_unread _

end Cert.KernelIdeal.Body

end
-- ==== Proof.BodyDKI.lean ====
/- The body's run at a later edge point: the aggregate takes up one more block of edges. -/
module

public import proofs.«01_k».proof.Proof.StepKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

set_option maxHeartbeats 1600000 in
/-- The body at a later edge point that is not the last. -/
theorem body_D (c : Dev nD) (i : grid0.Coords) (arg1 : Memref sig .tc .vmem S256x128 .f32) (harg1 : arg1.IsWhole) (arg2 : Memref sig .tc .vmem S192x4096 .f32) (harg2 : arg2.IsWhole) (arg3 : Memref sig .tc .vmem S4096x192 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x192 .f32) (harg6 : arg6.IsWhole) (arg7 : Memref sig .tc .vmem S256x4096 .f32) (harg7 : arg7.IsWhole) (arg8 : Memref sig .tc .vmem S256x1 .i32) (harg8 : arg8.IsWhole) (arg9 : Memref sig .tc .vmem S1x1x256 .i32) (harg9 : arg9.IsWhole) (arg10 : Memref sig .tc .vmem S1x32 .f32) (harg10 : arg10.IsWhole) (arg11 : Memref sig .tc .vmem S8192x96 .f32) (harg11 : arg11.IsWhole) (arg12 : Memref sig .tc .vmem S1x96 .f32) (harg12 : arg12.IsWhole) (arg13 : Memref sig .tc .vmem S96x48 .f32) (harg13 : arg13.IsWhole) (arg14 : Memref sig .tc .vmem S1x48 .f32) (harg14 : arg14.IsWhole) (arg15 : Memref sig .tc .vmem S48x65280 .f32) (harg15 : arg15.IsWhole) (arg16 : Memref sig .tc .vmem S1x65280 .f32) (harg16 : arg16.IsWhole) (arg17 : Memref sig .tc .vmem S1x65280 .f32) (harg17 : arg17.IsWhole) (arg18 : Memref sig .tc .vmem S256x6144 .bf16) (harg18 : arg18.IsWhole) (arg19 : Memref sig .tc .vmem S4096x192 .bf16) (harg19 : arg19.IsWhole) (arg20 : Memref sig .tc .vmem S256x32 .f32) (harg20 : arg20.IsWhole) (arg21 : Memref sig .tc .vmem S256x32 .f32) (harg21 : arg21.IsWhole) (arg22 : Memref sig .tc .vmem S256x32 .f32) (harg22 : arg22.IsWhole) (arg23 : Memref sig .tc .vmem S6144x32 .bf16) (harg23 : arg23.IsWhole) (hc0 : ¬cnd0 i) (hc3 : cnd3 i) (hc4 : ¬cnd4 i) (hc5 : cnd5 i) (hc6 : ¬cnd6 i)
    (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (x16 : Vec F S1x65280 .f32) (s : Scr F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare s.gn ∗ owns (c : Thread nD τ) arg19 fullShare s.w1b ∗ owns (c : Thread nD τ) arg20 fullShare s.xb ∗ owns (c : Thread nD τ) arg21 fullShare s.xr ∗ owns (c : Thread nD τ) arg22 fullShare s.agg ∗ owns (c : Thread nD τ) arg23 fullShare s.sel
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (stepD i x0 x1 x2 x3 x4 x5 x6 x7 x8 x9 x10 x11 x12 x13 x14 x15 s).gn ∗ owns (c : Thread nD τ) arg19 fullShare (stepD i x0 x1 x2 x3 x4 x5 x6 x7 x8 x9 x10 x11 x12 x13 x14 x15 s).w1b ∗ owns (c : Thread nD τ) arg20 fullShare (stepD i x0 x1 x2 x3 x4 x5 x6 x7 x8 x9 x10 x11 x12 x13 x14 x15 s).xb ∗ owns (c : Thread nD τ) arg21 fullShare (stepD i x0 x1 x2 x3 x4 x5 x6 x7 x8 x9 x10 x11 x12 x13 x14 x15 s).xr ∗ owns (c : Thread nD τ) arg22 fullShare (stepD i x0 x1 x2 x3 x4 x5 x6 x7 x8 x9 x10 x11 x12 x13 x14 x15 s).agg ∗ owns (c : Thread nD τ) arg23 fullShare (stepD i x0 x1 x2 x3 x4 x5 x6 x7 x8 x9 x10 x11 x12 x13 x14 x15 s).sel) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨gn, w1b, xb, xr, agg, sel⟩ := s
  simp only [cc0__main_body_eq_skeleton]; unfold cc0__main_body_skel
  simp only [k0_part6_eq_skeleton]
  unfold stepD
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc3 | sl_exact hc4 | sl_exact hc5 | sl_exact hc6)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; exact harg16.read_unread _
  isplitl [H16]
  · iexists _; isplitr; swap; · iexact H16
    ipureintro; exact harg17.read_unread _
  isplitl [H17]
  · iexists _; isplitr; swap; · iexact H17
    ipureintro; exact harg18.read_unread _
  isplitl [H18]
  · iexists _; isplitr; swap; · iexact H18
    ipureintro; exact harg19.read_unread _
  isplitl [H19]
  · iexists _; isplitr; swap; · iexact H19
    ipureintro; exact harg20.read_unread _
  isplitl [H20]
  · iexists _; isplitr; swap; · iexact H20
    ipureintro; exact harg21.read_unread _
  isplitl [H21]
  · iexists _; isplitr; swap; · iexact H21
    ipureintro; (try delta body_D.sl.v58); (try delta body_D.sl.H21_1); (try delta body_D.sl.r_2); (try delta body_D.sl.r_1); (try delta body_D.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  iexists _; isplitr; swap; · iexact H22
  ipureintro; exact harg23.read_unread _

end Cert.KernelIdeal.Body

end
-- ==== Proof.BodyEKI.lean ====
/- The body's run at the last point: the aggregate is finished and the dense head is stored. -/
module

public import proofs.«01_k».proof.Proof.StepKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

set_option maxHeartbeats 1600000 in
/-- The body at the last point: an edge point, then the head. -/
theorem body_E (c : Dev nD) (i : grid0.Coords) (arg1 : Memref sig .tc .vmem S256x128 .f32) (harg1 : arg1.IsWhole) (arg2 : Memref sig .tc .vmem S192x4096 .f32) (harg2 : arg2.IsWhole) (arg3 : Memref sig .tc .vmem S4096x192 .f32) (harg3 : arg3.IsWhole) (arg4 : Memref sig .tc .vmem S128x32 .f32) (harg4 : arg4.IsWhole) (arg5 : Memref sig .tc .vmem S128x32 .f32) (harg5 : arg5.IsWhole) (arg6 : Memref sig .tc .vmem S1x192 .f32) (harg6 : arg6.IsWhole) (arg7 : Memref sig .tc .vmem S256x4096 .f32) (harg7 : arg7.IsWhole) (arg8 : Memref sig .tc .vmem S256x1 .i32) (harg8 : arg8.IsWhole) (arg9 : Memref sig .tc .vmem S1x1x256 .i32) (harg9 : arg9.IsWhole) (arg10 : Memref sig .tc .vmem S1x32 .f32) (harg10 : arg10.IsWhole) (arg11 : Memref sig .tc .vmem S8192x96 .f32) (harg11 : arg11.IsWhole) (arg12 : Memref sig .tc .vmem S1x96 .f32) (harg12 : arg12.IsWhole) (arg13 : Memref sig .tc .vmem S96x48 .f32) (harg13 : arg13.IsWhole) (arg14 : Memref sig .tc .vmem S1x48 .f32) (harg14 : arg14.IsWhole) (arg15 : Memref sig .tc .vmem S48x65280 .f32) (harg15 : arg15.IsWhole) (arg16 : Memref sig .tc .vmem S1x65280 .f32) (harg16 : arg16.IsWhole) (arg17 : Memref sig .tc .vmem S1x65280 .f32) (harg17 : arg17.IsWhole) (arg18 : Memref sig .tc .vmem S256x6144 .bf16) (harg18 : arg18.IsWhole) (arg19 : Memref sig .tc .vmem S4096x192 .bf16) (harg19 : arg19.IsWhole) (arg20 : Memref sig .tc .vmem S256x32 .f32) (harg20 : arg20.IsWhole) (arg21 : Memref sig .tc .vmem S256x32 .f32) (harg21 : arg21.IsWhole) (arg22 : Memref sig .tc .vmem S256x32 .f32) (harg22 : arg22.IsWhole) (arg23 : Memref sig .tc .vmem S6144x32 .bf16) (harg23 : arg23.IsWhole) (hc0 : ¬cnd0 i) (hc3 : cnd3 i) (hc4 : ¬cnd4 i) (hc5 : cnd5 i) (hc6 : cnd6 i)
    (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (x16 : Vec F S1x65280 .f32) (s : Scr F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare s.gn ∗ owns (c : Thread nD τ) arg19 fullShare s.w1b ∗ owns (c : Thread nD τ) arg20 fullShare s.xb ∗ owns (c : Thread nD τ) arg21 fullShare s.xr ∗ owns (c : Thread nD τ) arg22 fullShare s.agg ∗ owns (c : Thread nD τ) arg23 fullShare s.sel
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (headOut x0 x1 x2 x3 x4 x5 x6 x7 x8 x9 x10 x11 x12 x13 x14 x15 (stepD i x0 x1 x2 x3 x4 x5 x6 x7 x8 x9 x10 x11 x12 x13 x14 x15 s)) ∗ owns (c : Thread nD τ) arg18 fullShare (stepD i x0 x1 x2 x3 x4 x5 x6 x7 x8 x9 x10 x11 x12 x13 x14 x15 s).gn ∗ owns (c : Thread nD τ) arg19 fullShare (stepD i x0 x1 x2 x3 x4 x5 x6 x7 x8 x9 x10 x11 x12 x13 x14 x15 s).w1b ∗ owns (c : Thread nD τ) arg20 fullShare (stepD i x0 x1 x2 x3 x4 x5 x6 x7 x8 x9 x10 x11 x12 x13 x14 x15 s).xb ∗ owns (c : Thread nD τ) arg21 fullShare (stepD i x0 x1 x2 x3 x4 x5 x6 x7 x8 x9 x10 x11 x12 x13 x14 x15 s).xr ∗ owns (c : Thread nD τ) arg22 fullShare (stepD i x0 x1 x2 x3 x4 x5 x6 x7 x8 x9 x10 x11 x12 x13 x14 x15 s).agg ∗ owns (c : Thread nD τ) arg23 fullShare (stepD i x0 x1 x2 x3 x4 x5 x6 x7 x8 x9 x10 x11 x12 x13 x14 x15 s).sel) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨gn, w1b, xb, xr, agg, sel⟩ := s
  simp only [cc0__main_body_eq_skeleton]; unfold cc0__main_body_skel
  simp only [k0_part6_eq_skeleton, k0_part4_eq_skeleton, k0_part5_eq_skeleton]
  unfold stepD headOut
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0 | sl_exact hc3 | sl_exact hc4 | sl_exact hc5 | sl_exact hc6)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; exact harg16.read_unread _
  isplitl [H16]
  · iexists _; isplitr; swap; · iexact H16
    ipureintro; (try delta body_E.sl.r_31); (try delta body_E.sl.r_30); (try delta body_E.sl.r_29); (try delta body_E.sl.r_28); (try delta body_E.sl.r_27); (try delta body_E.sl.r_26); (try delta body_E.sl.r_25); (try delta body_E.sl.r_24); (try delta body_E.sl.r_23); (try delta body_E.sl.r_22); (try delta body_E.sl.r_21); (try delta body_E.sl.r_20); (try delta body_E.sl.r_19); (try delta body_E.sl.r_18); (try delta body_E.sl.r_17); (try delta body_E.sl.r_16); (try delta body_E.sl.r_15); (try delta body_E.sl.r_14); (try delta body_E.sl.r_13); (try delta body_E.sl.r_12); (try delta body_E.sl.r_11); (try delta body_E.sl.r_10); (try delta body_E.sl.r_9); (try delta body_E.sl.r_8); (try delta body_E.sl.r_7); (try delta body_E.sl.r_6); (try delta body_E.sl.r_5); (try delta body_E.sl.r_4); (try delta body_E.sl.r_3); (try delta body_E.sl.r_2); (try delta body_E.sl.r_1); (try delta body_E.sl.r); (try delta body_E.sl.v58); (try delta body_E.sl.H21_1); (try delta body_E.sl.r_2); (try delta body_E.sl.r_1); (try delta body_E.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  isplitl [H17]
  · iexists _; isplitr; swap; · iexact H17
    ipureintro; exact harg18.read_unread _
  isplitl [H18]
  · iexists _; isplitr; swap; · iexact H18
    ipureintro; exact harg19.read_unread _
  isplitl [H19]
  · iexists _; isplitr; swap; · iexact H19
    ipureintro; exact harg20.read_unread _
  isplitl [H20]
  · iexists _; isplitr; swap; · iexact H20
    ipureintro; exact harg21.read_unread _
  isplitl [H21]
  · iexists _; isplitr; swap; · iexact H21
    ipureintro; (try delta body_E.sl.r_31); (try delta body_E.sl.r_30); (try delta body_E.sl.r_29); (try delta body_E.sl.r_28); (try delta body_E.sl.r_27); (try delta body_E.sl.r_26); (try delta body_E.sl.r_25); (try delta body_E.sl.r_24); (try delta body_E.sl.r_23); (try delta body_E.sl.r_22); (try delta body_E.sl.r_21); (try delta body_E.sl.r_20); (try delta body_E.sl.r_19); (try delta body_E.sl.r_18); (try delta body_E.sl.r_17); (try delta body_E.sl.r_16); (try delta body_E.sl.r_15); (try delta body_E.sl.r_14); (try delta body_E.sl.r_13); (try delta body_E.sl.r_12); (try delta body_E.sl.r_11); (try delta body_E.sl.r_10); (try delta body_E.sl.r_9); (try delta body_E.sl.r_8); (try delta body_E.sl.r_7); (try delta body_E.sl.r_6); (try delta body_E.sl.r_5); (try delta body_E.sl.r_4); (try delta body_E.sl.r_3); (try delta body_E.sl.r_2); (try delta body_E.sl.r_1); (try delta body_E.sl.r); (try delta body_E.sl.v58); (try delta body_E.sl.H21_1); (try delta body_E.sl.r_2); (try delta body_E.sl.r_1); (try delta body_E.sl.r); refine (View.read_writes_full _ _ _ _ _).trans ?_; (repeat rw [View.readAt_full]); (repeat rw [View.readCov_full]); (repeat rw [View.read_writes_full]); first | with_reducible rfl | (simp only [hf0, hf1, hf2, hf3, hf4, hf5, hf6, hf7, hf8, hf9, hf10, hf11, hf12, hf13, hf14, hf15, hf16, hf17, hf18, hf19, hf20, hf21, hf22]; done) | (simp only [hf0, hf1, hf2, hf3, hf4, hf5, hf6, hf7, hf8, hf9, hf10, hf11, hf12, hf13, hf14, hf15, hf16, hf17, hf18, hf19, hf20, hf21, hf22]; with_reducible rfl)
  iexists _; isplitr; swap; · iexact H22
  ipureintro; exact harg23.read_unread _

end Cert.KernelIdeal.Body

end
-- ==== Proof.BodiesKI.lean ====
/- The five kinds of point, together. -/
module

public import proofs.«01_k».proof.Proof.BodyAKI
public import proofs.«01_k».proof.Proof.BodyBKI
public import proofs.«01_k».proof.Proof.BodyCKI
public import proofs.«01_k».proof.Proof.BodyDKI
public import proofs.«01_k».proof.Proof.BodyEKI
-- ==== Proof.PointKI.lean ====
/- The body's run at any point, by the kind of the point. -/
module

public import proofs.«01_k».proof.Proof.BodiesKI
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

/-! The windows' current buffers at a point, and the kernel's own scratch. -/

abbrev ms0 (t : Fin cfg0.N) : Memref sig .tc .vmem S256x128 .f32 := win0_0.stage (cfg0.slots t 0)
abbrev ms1 (t : Fin cfg0.N) : Memref sig .tc .vmem S192x4096 .f32 := win0_1.stage (cfg0.slots t 1)
abbrev ms2 (t : Fin cfg0.N) : Memref sig .tc .vmem S4096x192 .f32 := win0_2.stage (cfg0.slots t 2)
abbrev ms3 (t : Fin cfg0.N) : Memref sig .tc .vmem S128x32 .f32 := win0_3.stage (cfg0.slots t 3)
abbrev ms4 (t : Fin cfg0.N) : Memref sig .tc .vmem S128x32 .f32 := win0_4.stage (cfg0.slots t 4)
abbrev ms5 (t : Fin cfg0.N) : Memref sig .tc .vmem S1x192 .f32 := win0_5.stage (cfg0.slots t 5)
abbrev ms6 (t : Fin cfg0.N) : Memref sig .tc .vmem S256x4096 .f32 := win0_6.stage (cfg0.slots t 6)
abbrev ms7 (t : Fin cfg0.N) : Memref sig .tc .vmem S256x1 .i32 := win0_7.stage (cfg0.slots t 7)
abbrev ms8 (t : Fin cfg0.N) : Memref sig .tc .vmem S1x1x256 .i32 := win0_8.stage (cfg0.slots t 8)
abbrev ms9 (t : Fin cfg0.N) : Memref sig .tc .vmem S1x32 .f32 := win0_9.stage (cfg0.slots t 9)
abbrev ms10 (t : Fin cfg0.N) : Memref sig .tc .vmem S8192x96 .f32 := win0_10.stage (cfg0.slots t 10)
abbrev ms11 (t : Fin cfg0.N) : Memref sig .tc .vmem S1x96 .f32 := win0_11.stage (cfg0.slots t 11)
abbrev ms12 (t : Fin cfg0.N) : Memref sig .tc .vmem S96x48 .f32 := win0_12.stage (cfg0.slots t 12)
abbrev ms13 (t : Fin cfg0.N) : Memref sig .tc .vmem S1x48 .f32 := win0_13.stage (cfg0.slots t 13)
abbrev ms14 (t : Fin cfg0.N) : Memref sig .tc .vmem S48x65280 .f32 := win0_14.stage (cfg0.slots t 14)
abbrev ms15 (t : Fin cfg0.N) : Memref sig .tc .vmem S1x65280 .f32 := win0_15.stage (cfg0.slots t 15)
abbrev ms16 (t : Fin cfg0.N) : Memref sig .tc .vmem S1x65280 .f32 := win0_16.stage (cfg0.slots t 16)
abbrev scM0 : Memref sig .tc .vmem S256x6144 .bf16 := Memref.whole cc0_scratch0
abbrev scM1 : Memref sig .tc .vmem S4096x192 .bf16 := Memref.whole cc0_scratch1
abbrev scM2 : Memref sig .tc .vmem S256x32 .f32 := Memref.whole cc0_scratch2
abbrev scM3 : Memref sig .tc .vmem S256x32 .f32 := Memref.whole cc0_scratch3
abbrev scM4 : Memref sig .tc .vmem S256x32 .f32 := Memref.whole cc0_scratch4
abbrev scM5 : Memref sig .tc .vmem S6144x32 .bf16 := Memref.whole cc0_scratch5

set_option maxHeartbeats 1600000 in
/-- The body at any point: from the sixteen inputs, what the result's buffer holds and the scratch, to whatever pair of
    scratch and result its case of the grid leaves (`P`), a frame `R` carried along. -/
theorem point (c : Dev nD) (t : Fin cfg0.N) (x0 : Vec F S256x128 .f32) (x1 : Vec F S192x4096 .f32) (x2 : Vec F S4096x192 .f32) (x3 : Vec F S128x32 .f32) (x4 : Vec F S128x32 .f32) (x5 : Vec F S1x192 .f32) (x6 : Vec F S256x4096 .f32) (x7 : Vec F S256x1 .i32) (x8 : Vec F S1x1x256 .i32) (x9 : Vec F S1x32 .f32) (x10 : Vec F S8192x96 .f32) (x11 : Vec F S1x96 .f32) (x12 : Vec F S96x48 .f32) (x13 : Vec F S1x48 .f32) (x14 : Vec F S48x65280 .f32) (x15 : Vec F S1x65280 .f32) (Y : Vec F S1x65280 .f32) (s : Scr F)
    (P : Scr F → Vec F S1x65280 .f32 → Prop) (R : sProp 𝕄) (E : Set ℕ) (K : PUnit → sProp 𝕄)
    (hA : t.val = 0 → P (stepA (grid0.coords t) x0 x1 x2 x3 x4 x5 x6 x7 x8 x9 x10 x11 x12 x13 x14 x15 s) Y)
    (hB : 1 ≤ t.val → t.val < 4 → P (stepB (grid0.coords t) x0 x1 x2 x3 x4 x5 x6 x7 x8 x9 x10 x11 x12 x13 x14 x15 s) Y)
    (hC : t.val = 4 → P (stepC (grid0.coords t) x0 x1 x2 x3 x4 x5 x6 x7 x8 x9 x10 x11 x12 x13 x14 x15 s) Y)
    (hD : 5 ≤ t.val → t.val < 19 → P (stepD (grid0.coords t) x0 x1 x2 x3 x4 x5 x6 x7 x8 x9 x10 x11 x12 x13 x14 x15 s) Y)
    (hE : t.val = 19 → P (stepD (grid0.coords t) x0 x1 x2 x3 x4 x5 x6 x7 x8 x9 x10 x11 x12 x13 x14 x15 s) (headOut x0 x1 x2 x3 x4 x5 x6 x7 x8 x9 x10 x11 x12 x13 x14 x15 (stepD (grid0.coords t) x0 x1 x2 x3 x4 x5 x6 x7 x8 x9 x10 x11 x12 x13 x14 x15 s)))
    (hK : ∀ s' Y', P s' Y' → iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ owns (c : Thread nD τ) (ms6 t) fullShare x6 ∗ owns (c : Thread nD τ) (ms7 t) fullShare x7 ∗ owns (c : Thread nD τ) (ms8 t) fullShare x8 ∗ owns (c : Thread nD τ) (ms9 t) fullShare x9 ∗ owns (c : Thread nD τ) (ms10 t) fullShare x10 ∗ owns (c : Thread nD τ) (ms11 t) fullShare x11 ∗ owns (c : Thread nD τ) (ms12 t) fullShare x12 ∗ owns (c : Thread nD τ) (ms13 t) fullShare x13 ∗ owns (c : Thread nD τ) (ms14 t) fullShare x14 ∗ owns (c : Thread nD τ) (ms15 t) fullShare x15 ∗ owns (c : Thread nD τ) (ms16 t) fullShare Y' ∗ owns (c : Thread nD τ) scM0 fullShare s'.gn ∗ owns (c : Thread nD τ) scM1 fullShare s'.w1b ∗ owns (c : Thread nD τ) scM2 fullShare s'.xb ∗ owns (c : Thread nD τ) scM3 fullShare s'.xr ∗ owns (c : Thread nD τ) scM4 fullShare s'.agg ∗ owns (c : Thread nD τ) scM5 fullShare s'.sel ∗ R) ⊢ K ⟨⟩) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ owns (c : Thread nD τ) (ms6 t) fullShare x6 ∗ owns (c : Thread nD τ) (ms7 t) fullShare x7 ∗ owns (c : Thread nD τ) (ms8 t) fullShare x8 ∗ owns (c : Thread nD τ) (ms9 t) fullShare x9 ∗ owns (c : Thread nD τ) (ms10 t) fullShare x10 ∗ owns (c : Thread nD τ) (ms11 t) fullShare x11 ∗ owns (c : Thread nD τ) (ms12 t) fullShare x12 ∗ owns (c : Thread nD τ) (ms13 t) fullShare x13 ∗ owns (c : Thread nD τ) (ms14 t) fullShare x14 ∗ owns (c : Thread nD τ) (ms15 t) fullShare x15 ∗ owns (c : Thread nD τ) (ms16 t) fullShare Y ∗ owns (c : Thread nD τ) scM0 fullShare s.gn ∗ owns (c : Thread nD τ) scM1 fullShare s.w1b ∗ owns (c : Thread nD τ) scM2 fullShare s.xb ∗ owns (c : Thread nD τ) scM3 fullShare s.xr ∗ owns (c : Thread nD τ) scM4 fullShare s.agg ∗ owns (c : Thread nD τ) scM5 fullShare s.sel ∗ R)
      ⊢ wp frame (wpE (defs₀ (F := F)) Variants.none c none) E (bodyAt0 t) K := by
  have hN : t.val < 20 := lt_of_lt_of_eq t.isLt N_0
  rcases (by omega : t.val = 0 ∨ (1 ≤ t.val ∧ t.val < 4) ∨ t.val = 4 ∨ (5 ≤ t.val ∧ t.val < 19) ∨ t.val = 19) with h | h | h | h | h
  · iintro ⟨H0, H1, H2, H3, H4, H5, H6, H7, H8, H9, H10, H11, H12, H13, H14, H15, H16, G0, G1, G2, G3, G4, G5, HR⟩
    iapply (body_A c (grid0.coords t) _ _ _ _ _ _ _ _ _ _ _ _ _ _ _ _ _ _ _ _ _ _ _ _ _ _ _ _ _ _ _ _ _ _ _ _ _ _ _ _ _ _ _ _ _ _ ((cnd0_iff t).mpr (by omega)) ((cnd1_iff t).mpr (by omega)) (fun h => absurd ((cnd2_iff t).mp h) (by omega)) (fun h => absurd ((cnd3_iff t).mp h) (by omega)) x0 x1 x2 x3 x4 x5 x6 x7 x8 x9 x10 x11 x12 x13 x14 x15 Y s E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iintro ⟨H0, H1, H2, H3, H4, H5, H6, H7, H8, H9, H10, H11, H12, H13, H14, H15, H16, G0, G1, G2, G3, G4, G5⟩
    iapply (hK _ _ (hA h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iexact HR
  · iintro ⟨H0, H1, H2, H3, H4, H5, H6, H7, H8, H9, H10, H11, H12, H13, H14, H15, H16, G0, G1, G2, G3, G4, G5, HR⟩
    iapply (body_B c (grid0.coords t) _ _ _ _ _ _ _ _ _ _ _ _ _ _ _ _ _ _ _ _ _ _ _ _ _ _ _ _ _ _ _ _ _ _ _ _ _ _ _ _ _ _ _ _ _ _ ((cnd0_iff t).mpr (by omega)) (fun h => absurd ((cnd1_iff t).mp h) (by omega)) ((cnd2_iff t).mpr (by omega)) (fun h => absurd ((cnd3_iff t).mp h) (by omega)) x0 x1 x2 x3 x4 x5 x6 x7 x8 x9 x10 x11 x12 x13 x14 x15 Y s E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iintro ⟨H0, H1, H2, H3, H4, H5, H6, H7, H8, H9, H10, H11, H12, H13, H14, H15, H16, G0, G1, G2, G3, G4, G5⟩
    iapply (hK _ _ (hB h.1 h.2))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iexact HR
  · iintro ⟨H0, H1, H2, H3, H4, H5, H6, H7, H8, H9, H10, H11, H12, H13, H14, H15, H16, G0, G1, G2, G3, G4, G5, HR⟩
    iapply (body_C c (grid0.coords t) _ _ _ _ _ _ _ _ _ _ _ _ _ _ _ _ _ _ _ _ _ _ _ _ _ _ _ _ _ _ _ _ _ _ _ _ _ _ _ _ _ _ _ _ _ _ (fun h => absurd ((cnd0_iff t).mp h) (by omega)) ((cnd3_iff t).mpr (by omega)) ((cnd4_iff t).mpr (by omega)) (fun h => absurd ((cnd5_iff t).mp h) (by omega)) (fun h => absurd ((cnd6_iff t).mp h) (by omega)) x0 x1 x2 x3 x4 x5 x6 x7 x8 x9 x10 x11 x12 x13 x14 x15 Y s E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iintro ⟨H0, H1, H2, H3, H4, H5, H6, H7, H8, H9, H10, H11, H12, H13, H14, H15, H16, G0, G1, G2, G3, G4, G5⟩
    iapply (hK _ _ (hC h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iexact HR
  · iintro ⟨H0, H1, H2, H3, H4, H5, H6, H7, H8, H9, H10, H11, H12, H13, H14, H15, H16, G0, G1, G2, G3, G4, G5, HR⟩
    iapply (body_D c (grid0.coords t) _ _ _ _ _ _ _ _ _ _ _ _ _ _ _ _ _ _ _ _ _ _ _ _ _ _ _ _ _ _ _ _ _ _ _ _ _ _ _ _ _ _ _ _ _ _ (fun h => absurd ((cnd0_iff t).mp h) (by omega)) ((cnd3_iff t).mpr (by omega)) (fun h => absurd ((cnd4_iff t).mp h) (by omega)) ((cnd5_iff t).mpr (by omega)) (fun h => absurd ((cnd6_iff t).mp h) (by omega)) x0 x1 x2 x3 x4 x5 x6 x7 x8 x9 x10 x11 x12 x13 x14 x15 Y s E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iintro ⟨H0, H1, H2, H3, H4, H5, H6, H7, H8, H9, H10, H11, H12, H13, H14, H15, H16, G0, G1, G2, G3, G4, G5⟩
    iapply (hK _ _ (hD h.1 h.2))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iexact HR
  · iintro ⟨H0, H1, H2, H3, H4, H5, H6, H7, H8, H9, H10, H11, H12, H13, H14, H15, H16, G0, G1, G2, G3, G4, G5, HR⟩
    iapply (body_E c (grid0.coords t) _ _ _ _ _ _ _ _ _ _ _ _ _ _ _ _ _ _ _ _ _ _ _ _ _ _ _ _ _ _ _ _ _ _ _ _ _ _ _ _ _ _ _ _ _ _ (fun h => absurd ((cnd0_iff t).mp h) (by omega)) ((cnd3_iff t).mpr (by omega)) (fun h => absurd ((cnd4_iff t).mp h) (by omega)) ((cnd5_iff t).mpr (by omega)) ((cnd6_iff t).mpr (by omega)) x0 x1 x2 x3 x4 x5 x6 x7 x8 x9 x10 x11 x12 x13 x14 x15 Y s E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iintro ⟨H0, H1, H2, H3, H4, H5, H6, H7, H8, H9, H10, H11, H12, H13, H14, H15, H16, G0, G1, G2, G3, G4, G5⟩
    iapply (hK _ _ (hE h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G0]; · iexact G0
    isplitl [G1]; · iexact G1
    isplitl [G2]; · iexact G2
    isplitl [G3]; · iexact G3
    isplitl [G4]; · iexact G4
    isplitl [G5]; · iexact G5
    iexact HR

end Cert.KernelIdeal.Body

end
-- ==== Proof.LaunchKI.lean ====
/- The launch: the proof data over any tracked predicate on the scratch, and the run of the whole program. -/
module

public import proofs.«01_k».proof.Proof.PointKI

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the blocks are cut is a function of which block it is. -/
theorem clip0 : ∀ t t' : Fin cfg0.N, (cfg0.win 0).index t = (cfg0.win 0).index t' →
    (cfg0.win 0).clip (grid0.coords t) = (cfg0.win 0).clip (grid0.coords t') :=
  (by decide +kernel : ∀ t t' : Fin grid0.N, win0_0.index t = win0_0.index t' → win0_0.clip (grid0.coords t) = win0_0.clip (grid0.coords t'))
theorem clip1 : ∀ t t' : Fin cfg0.N, (cfg0.win 1).index t = (cfg0.win 1).index t' →
    (cfg0.win 1).clip (grid0.coords t) = (cfg0.win 1).clip (grid0.coords t') :=
  (by decide +kernel : ∀ t t' : Fin grid0.N, win0_1.index t = win0_1.index t' → win0_1.clip (grid0.coords t) = win0_1.clip (grid0.coords t'))
theorem clip3 : ∀ t t' : Fin cfg0.N, (cfg0.win 3).index t = (cfg0.win 3).index t' →
    (cfg0.win 3).clip (grid0.coords t) = (cfg0.win 3).clip (grid0.coords t') :=
  (by decide +kernel : ∀ t t' : Fin grid0.N, win0_3.index t = win0_3.index t' → win0_3.clip (grid0.coords t) = win0_3.clip (grid0.coords t'))
theorem clip4 : ∀ t t' : Fin cfg0.N, (cfg0.win 4).index t = (cfg0.win 4).index t' →
    (cfg0.win 4).clip (grid0.coords t) = (cfg0.win 4).clip (grid0.coords t') :=
  (by decide +kernel : ∀ t t' : Fin grid0.N, win0_4.index t = win0_4.index t' → win0_4.clip (grid0.coords t) = win0_4.clip (grid0.coords t'))

/-- The clipped inputs' buffers hold their block where it lies inside the array and anything beyond it: at filler `d`. -/
def fil0 (c : Dev nD) (t : Fin cfg0.N) (d : Vec F S256x128 .f32) : Vec F S256x128 .f32 := (cfg0.win 0).fill (grid0.coords t) d (iblk m c 0 t)
def fil1 (c : Dev nD) (t : Fin cfg0.N) (d : Vec F S192x4096 .f32) : Vec F S192x4096 .f32 := (cfg0.win 1).fill (grid0.coords t) d (iblk m c 1 t)
def fil3 (c : Dev nD) (t : Fin cfg0.N) (d : Vec F S128x32 .f32) : Vec F S128x32 .f32 := (cfg0.win 3).fill (grid0.coords t) d (iblk m c 3 t)
def fil4 (c : Dev nD) (t : Fin cfg0.N) (d : Vec F S128x32 .f32) : Vec F S128x32 .f32 := (cfg0.win 4).fill (grid0.coords t) d (iblk m c 4 t)

/-- What is to be known of the scratch before each point, and of the result: true of anything at the start, kept by each of the
    body's five cases whatever the clipped inputs hold beyond the array, and giving `G` of the result at the last point. -/
structure Track where
  Inv : Dev nD → ℕ → Scr F → Prop
  G : Dev nD → Vec F S1x65280 .f32 → Prop
  init : ∀ c s, Inv c 0 s
  hA : ∀ c (t : Fin cfg0.N) (d0 : Vec F S256x128 .f32) (d1 : Vec F S192x4096 .f32) (d3 : Vec F S128x32 .f32) (d4 : Vec F S128x32 .f32) s, t.val = 0 → Inv c t.val s → Inv c (t.val + 1) (stepA (grid0.coords t) (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) s)
  hB : ∀ c (t : Fin cfg0.N) (d0 : Vec F S256x128 .f32) (d1 : Vec F S192x4096 .f32) (d3 : Vec F S128x32 .f32) (d4 : Vec F S128x32 .f32) s, 1 ≤ t.val → t.val < 4 → Inv c t.val s → Inv c (t.val + 1) (stepB (grid0.coords t) (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) s)
  hC : ∀ c (t : Fin cfg0.N) (d0 : Vec F S256x128 .f32) (d1 : Vec F S192x4096 .f32) (d3 : Vec F S128x32 .f32) (d4 : Vec F S128x32 .f32) s, t.val = 4 → Inv c t.val s → Inv c (t.val + 1) (stepC (grid0.coords t) (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) s)
  hD : ∀ c (t : Fin cfg0.N) (d0 : Vec F S256x128 .f32) (d1 : Vec F S192x4096 .f32) (d3 : Vec F S128x32 .f32) (d4 : Vec F S128x32 .f32) s, 5 ≤ t.val → Inv c t.val s → Inv c (t.val + 1) (stepD (grid0.coords t) (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) s)
  hE : ∀ c (t : Fin cfg0.N) (d0 : Vec F S256x128 .f32) (d1 : Vec F S192x4096 .f32) (d3 : Vec F S128x32 .f32) (d4 : Vec F S128x32 .f32) s, t.val = 19 → Inv c (t.val + 1) s → G c (headOut (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) s)

variable {m} (T : Track (F := F) m)

def scrOwn (c : Dev nD) (s : Scr F) : sProp 𝕄 := iprop(owns (c : Thread nD τ) scM0 fullShare s.gn ∗ owns (c : Thread nD τ) scM1 fullShare s.w1b ∗ owns (c : Thread nD τ) scM2 fullShare s.xb ∗ owns (c : Thread nD τ) scM3 fullShare s.xr ∗ owns (c : Thread nD τ) scM4 fullShare s.agg ∗ owns (c : Thread nD τ) scM5 fullShare s.sel)

/-- The invariant before point `n`: the scratch held at contents of which `Inv` is known, and the generator. -/
def Phi (c : Dev nD) (n : ℕ) : sProp 𝕄 := iprop(∃ s : Scr F, ⌜T.Inv c n s⌝ ∗ scrOwn c s ∗ (∃ r, prngReg c r))

/-- The proof data: the arrays as the region finds them, each input's block left in place; of the result nothing here. -/
def dats (c : Dev nD) : Dat τ (Elt F) Unit ℕ (UR sig nD τ) ℕ cfg0 c where
  A w := V m c (Pipeline.arrRef spec0 w)
  after w t := match w with
    | ⟨0, _⟩ => fil0 m c t (constant S256x128 .f32 0x00000000#32)
    | ⟨1, _⟩ => fil1 m c t (constant S192x4096 .f32 0x00000000#32)
    | ⟨2, _⟩ => iblk m c 2 t
    | ⟨3, _⟩ => fil3 m c t (constant S128x32 .f32 0x00000000#32)
    | ⟨4, _⟩ => fil4 m c t (constant S128x32 .f32 0x00000000#32)
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => constant S1x65280 .f32 0x00000000#32
    | ⟨_ + 17, h⟩ => absurd h (Nat.not_lt.2 (Nat.le_add_left _ _))
  Φ t := Phi T c t.val
  q _ := fullShare
  owed _ := 0

/-- The one window that is written, of which a predicate is kept: at the last point the result meets `G`. -/
def isRes (w : Fin cfg0.W) : Bool := decide (w.val = 16)
def leavesG (c : Dev nD) (w : Fin cfg0.W) (t : Fin cfg0.N) : ((cfg0.win w).block.Idx → Elt F (cfg0.win w).elt) → Prop :=
  match w with
  | ⟨16, _⟩ => fun X => t.val = 19 → T.G c X
  | _ => fun _ => True

theorem A_eq (c : Dev nD) (w : Fin cfg0.W) : (dats T c).A w = V m c (Pipeline.arrRef spec0 w) := by dsimp only [dats]

theorem after0 (c : Dev nD) (t : Fin cfg0.N) : (dats T c).after 0 t = fil0 m c t (constant S256x128 .f32 0x00000000#32) := by dsimp only [dats]
theorem cut0 (c : Dev nD) (t : Fin cfg0.N) (d : Vec F S256x128 .f32) : (cfg0.win 0).cut (grid0.coords t) (fil0 m c t d) = iblk m c 0 t :=
  Window.cut_fill _ _ _ _
theorem before0 (c : Dev nD) (t : Fin cfg0.N) (d) : (dats T c).before 0 t d = fil0 m c t d :=
  ((dats T c).before_in_eq_fetched 0 rfl (fun _ => rfl) (fun t t' h => by
      show (cfg0.win 0).clip (grid0.coords t) = (cfg0.win 0).clip (grid0.coords t')
      exact clip0 t t' h)
    (fun t => by rw [after0]; refine (cut0 c t _).trans ?_; unfold Dat.blockOf iblk; rw [A_eq]; try rfl) t d).trans
    (by unfold Dat.fetched Dat.blockOf fil0 iblk; rw [A_eq]; try rfl)
theorem refill0 (c : Dev nD) (t : Fin cfg0.N) (d : Vec F S256x128 .f32) :
    (cfg0.win 0).fill (grid0.coords t) d ((cfg0.win 0).cut (grid0.coords t) ((dats T c).after 0 t)) = fil0 m c t d := by
  rw [after0, cut0]; rfl
theorem after1 (c : Dev nD) (t : Fin cfg0.N) : (dats T c).after 1 t = fil1 m c t (constant S192x4096 .f32 0x00000000#32) := by dsimp only [dats]
theorem cut1 (c : Dev nD) (t : Fin cfg0.N) (d : Vec F S192x4096 .f32) : (cfg0.win 1).cut (grid0.coords t) (fil1 m c t d) = iblk m c 1 t :=
  Window.cut_fill _ _ _ _
theorem before1 (c : Dev nD) (t : Fin cfg0.N) (d) : (dats T c).before 1 t d = fil1 m c t d :=
  ((dats T c).before_in_eq_fetched 1 rfl (fun _ => rfl) (fun t t' h => by
      show (cfg0.win 1).clip (grid0.coords t) = (cfg0.win 1).clip (grid0.coords t')
      exact clip1 t t' h)
    (fun t => by rw [after1]; refine (cut1 c t _).trans ?_; unfold Dat.blockOf iblk; rw [A_eq]; try rfl) t d).trans
    (by unfold Dat.fetched Dat.blockOf fil1 iblk; rw [A_eq]; try rfl)
theorem refill1 (c : Dev nD) (t : Fin cfg0.N) (d : Vec F S192x4096 .f32) :
    (cfg0.win 1).fill (grid0.coords t) d ((cfg0.win 1).cut (grid0.coords t) ((dats T c).after 1 t)) = fil1 m c t d := by
  rw [after1, cut1]; rfl
theorem after2 (c : Dev nD) (t : Fin cfg0.N) : (dats T c).after 2 t = iblk m c 2 t := by dsimp only [dats]
theorem before2 (c : Dev nD) (t : Fin cfg0.N) (d) : (dats T c).before 2 t d = iblk m c 2 t :=
  before0_2_of m (dats T c) (A_eq T c 2) (after2 T c) t d
theorem after3 (c : Dev nD) (t : Fin cfg0.N) : (dats T c).after 3 t = fil3 m c t (constant S128x32 .f32 0x00000000#32) := by dsimp only [dats]
theorem cut3 (c : Dev nD) (t : Fin cfg0.N) (d : Vec F S128x32 .f32) : (cfg0.win 3).cut (grid0.coords t) (fil3 m c t d) = iblk m c 3 t :=
  Window.cut_fill _ _ _ _
theorem before3 (c : Dev nD) (t : Fin cfg0.N) (d) : (dats T c).before 3 t d = fil3 m c t d :=
  ((dats T c).before_in_eq_fetched 3 rfl (fun _ => rfl) (fun t t' h => by
      show (cfg0.win 3).clip (grid0.coords t) = (cfg0.win 3).clip (grid0.coords t')
      exact clip3 t t' h)
    (fun t => by rw [after3]; refine (cut3 c t _).trans ?_; unfold Dat.blockOf iblk; rw [A_eq]; try rfl) t d).trans
    (by unfold Dat.fetched Dat.blockOf fil3 iblk; rw [A_eq]; try rfl)
theorem refill3 (c : Dev nD) (t : Fin cfg0.N) (d : Vec F S128x32 .f32) :
    (cfg0.win 3).fill (grid0.coords t) d ((cfg0.win 3).cut (grid0.coords t) ((dats T c).after 3 t)) = fil3 m c t d := by
  rw [after3, cut3]; rfl
theorem after4 (c : Dev nD) (t : Fin cfg0.N) : (dats T c).after 4 t = fil4 m c t (constant S128x32 .f32 0x00000000#32) := by dsimp only [dats]
theorem cut4 (c : Dev nD) (t : Fin cfg0.N) (d : Vec F S128x32 .f32) : (cfg0.win 4).cut (grid0.coords t) (fil4 m c t d) = iblk m c 4 t :=
  Window.cut_fill _ _ _ _
theorem before4 (c : Dev nD) (t : Fin cfg0.N) (d) : (dats T c).before 4 t d = fil4 m c t d :=
  ((dats T c).before_in_eq_fetched 4 rfl (fun _ => rfl) (fun t t' h => by
      show (cfg0.win 4).clip (grid0.coords t) = (cfg0.win 4).clip (grid0.coords t')
      exact clip4 t t' h)
    (fun t => by rw [after4]; refine (cut4 c t _).trans ?_; unfold Dat.blockOf iblk; rw [A_eq]; try rfl) t d).trans
    (by unfold Dat.fetched Dat.blockOf fil4 iblk; rw [A_eq]; try rfl)
theorem refill4 (c : Dev nD) (t : Fin cfg0.N) (d : Vec F S128x32 .f32) :
    (cfg0.win 4).fill (grid0.coords t) d ((cfg0.win 4).cut (grid0.coords t) ((dats T c).after 4 t)) = fil4 m c t d := by
  rw [after4, cut4]; rfl
theorem after5 (c : Dev nD) (t : Fin cfg0.N) : (dats T c).after 5 t = iblk m c 5 t := by dsimp only [dats]
theorem before5 (c : Dev nD) (t : Fin cfg0.N) (d) : (dats T c).before 5 t d = iblk m c 5 t :=
  before0_5_of m (dats T c) (A_eq T c 5) (after5 T c) t d
theorem after6 (c : Dev nD) (t : Fin cfg0.N) : (dats T c).after 6 t = iblk m c 6 t := by dsimp only [dats]
theorem before6 (c : Dev nD) (t : Fin cfg0.N) (d) : (dats T c).before 6 t d = iblk m c 6 t :=
  before0_6_of m (dats T c) (A_eq T c 6) (after6 T c) t d
theorem after7 (c : Dev nD) (t : Fin cfg0.N) : (dats T c).after 7 t = iblk m c 7 t := by dsimp only [dats]
theorem before7 (c : Dev nD) (t : Fin cfg0.N) (d) : (dats T c).before 7 t d = iblk m c 7 t :=
  before0_7_of m (dats T c) (A_eq T c 7) (after7 T c) t d
theorem after8 (c : Dev nD) (t : Fin cfg0.N) : (dats T c).after 8 t = iblk m c 8 t := by dsimp only [dats]
theorem before8 (c : Dev nD) (t : Fin cfg0.N) (d) : (dats T c).before 8 t d = iblk m c 8 t :=
  before0_8_of m (dats T c) (A_eq T c 8) (after8 T c) t d
theorem after9 (c : Dev nD) (t : Fin cfg0.N) : (dats T c).after 9 t = iblk m c 9 t := by dsimp only [dats]
theorem before9 (c : Dev nD) (t : Fin cfg0.N) (d) : (dats T c).before 9 t d = iblk m c 9 t :=
  before0_9_of m (dats T c) (A_eq T c 9) (after9 T c) t d
theorem after10 (c : Dev nD) (t : Fin cfg0.N) : (dats T c).after 10 t = iblk m c 10 t := by dsimp only [dats]
theorem before10 (c : Dev nD) (t : Fin cfg0.N) (d) : (dats T c).before 10 t d = iblk m c 10 t :=
  before0_10_of m (dats T c) (A_eq T c 10) (after10 T c) t d
theorem after11 (c : Dev nD) (t : Fin cfg0.N) : (dats T c).after 11 t = iblk m c 11 t := by dsimp only [dats]
theorem before11 (c : Dev nD) (t : Fin cfg0.N) (d) : (dats T c).before 11 t d = iblk m c 11 t :=
  before0_11_of m (dats T c) (A_eq T c 11) (after11 T c) t d
theorem after12 (c : Dev nD) (t : Fin cfg0.N) : (dats T c).after 12 t = iblk m c 12 t := by dsimp only [dats]
theorem before12 (c : Dev nD) (t : Fin cfg0.N) (d) : (dats T c).before 12 t d = iblk m c 12 t :=
  before0_12_of m (dats T c) (A_eq T c 12) (after12 T c) t d
theorem after13 (c : Dev nD) (t : Fin cfg0.N) : (dats T c).after 13 t = iblk m c 13 t := by dsimp only [dats]
theorem before13 (c : Dev nD) (t : Fin cfg0.N) (d) : (dats T c).before 13 t d = iblk m c 13 t :=
  before0_13_of m (dats T c) (A_eq T c 13) (after13 T c) t d
theorem after14 (c : Dev nD) (t : Fin cfg0.N) : (dats T c).after 14 t = iblk m c 14 t := by dsimp only [dats]
theorem before14 (c : Dev nD) (t : Fin cfg0.N) (d) : (dats T c).before 14 t d = iblk m c 14 t :=
  before0_14_of m (dats T c) (A_eq T c 14) (after14 T c) t d
theorem after15 (c : Dev nD) (t : Fin cfg0.N) : (dats T c).after 15 t = iblk m c 15 t := by dsimp only [dats]
theorem before15 (c : Dev nD) (t : Fin cfg0.N) (d) : (dats T c).before 15 t d = iblk m c 15 t :=
  before0_15_of m (dats T c) (A_eq T c 15) (after15 T c) t d

set_option maxHeartbeats 1600000 in
/-- The body's triple at every point, over the proof data. -/
theorem sound_body (c : Dev nD) (t : Fin cfg0.N) :
    iprop((dats T c).Φ t.castSucc ∗ (dats T c).owesAt () t.castSucc ∗ (∃ d, owns (c : Thread nD τ) (ms0 t) fullShare ((dats T c).before 0 t d)) ∗ (∃ d, owns (c : Thread nD τ) (ms1 t) fullShare ((dats T c).before 1 t d)) ∗ (∃ d, owns (c : Thread nD τ) (ms2 t) fullShare ((dats T c).before 2 t d)) ∗ (∃ d, owns (c : Thread nD τ) (ms3 t) fullShare ((dats T c).before 3 t d)) ∗ (∃ d, owns (c : Thread nD τ) (ms4 t) fullShare ((dats T c).before 4 t d)) ∗ (∃ d, owns (c : Thread nD τ) (ms5 t) fullShare ((dats T c).before 5 t d)) ∗ (∃ d, owns (c : Thread nD τ) (ms6 t) fullShare ((dats T c).before 6 t d)) ∗ (∃ d, owns (c : Thread nD τ) (ms7 t) fullShare ((dats T c).before 7 t d)) ∗ (∃ d, owns (c : Thread nD τ) (ms8 t) fullShare ((dats T c).before 8 t d)) ∗ (∃ d, owns (c : Thread nD τ) (ms9 t) fullShare ((dats T c).before 9 t d)) ∗ (∃ d, owns (c : Thread nD τ) (ms10 t) fullShare ((dats T c).before 10 t d)) ∗ (∃ d, owns (c : Thread nD τ) (ms11 t) fullShare ((dats T c).before 11 t d)) ∗ (∃ d, owns (c : Thread nD τ) (ms12 t) fullShare ((dats T c).before 12 t d)) ∗ (∃ d, owns (c : Thread nD τ) (ms13 t) fullShare ((dats T c).before 13 t d)) ∗ (∃ d, owns (c : Thread nD τ) (ms14 t) fullShare ((dats T c).before 14 t d)) ∗ (∃ d, owns (c : Thread nD τ) (ms15 t) fullShare ((dats T c).before 15 t d)) ∗ (∃ Y, ⌜((dats T c).toRRel isRes (leavesG T c)).Finds 16 t Y⌝ ∗ owns (c : Thread nD τ) (ms16 t) fullShare Y))
      ⊢ wp frame (wpE (defs₀ (F := F)) Variants.none c none) Set.univ (bodyAt0 t) (fun _ =>
        iprop((dats T c).Φ t.succ ∗ (dats T c).owesAt () t.succ ∗ (∃ d, owns (c : Thread nD τ) (ms0 t) fullShare ((cfg0.win 0).fill (grid0.coords t) d ((cfg0.win 0).cut (grid0.coords t) ((dats T c).after 0 t)))) ∗ (∃ d, owns (c : Thread nD τ) (ms1 t) fullShare ((cfg0.win 1).fill (grid0.coords t) d ((cfg0.win 1).cut (grid0.coords t) ((dats T c).after 1 t)))) ∗ owns (c : Thread nD τ) (ms2 t) fullShare ((dats T c).after 2 t) ∗ (∃ d, owns (c : Thread nD τ) (ms3 t) fullShare ((cfg0.win 3).fill (grid0.coords t) d ((cfg0.win 3).cut (grid0.coords t) ((dats T c).after 3 t)))) ∗ (∃ d, owns (c : Thread nD τ) (ms4 t) fullShare ((cfg0.win 4).fill (grid0.coords t) d ((cfg0.win 4).cut (grid0.coords t) ((dats T c).after 4 t)))) ∗ owns (c : Thread nD τ) (ms5 t) fullShare ((dats T c).after 5 t) ∗ owns (c : Thread nD τ) (ms6 t) fullShare ((dats T c).after 6 t) ∗ owns (c : Thread nD τ) (ms7 t) fullShare ((dats T c).after 7 t) ∗ owns (c : Thread nD τ) (ms8 t) fullShare ((dats T c).after 8 t) ∗ owns (c : Thread nD τ) (ms9 t) fullShare ((dats T c).after 9 t) ∗ owns (c : Thread nD τ) (ms10 t) fullShare ((dats T c).after 10 t) ∗ owns (c : Thread nD τ) (ms11 t) fullShare ((dats T c).after 11 t) ∗ owns (c : Thread nD τ) (ms12 t) fullShare ((dats T c).after 12 t) ∗ owns (c : Thread nD τ) (ms13 t) fullShare ((dats T c).after 13 t) ∗ owns (c : Thread nD τ) (ms14 t) fullShare ((dats T c).after 14 t) ∗ owns (c : Thread nD τ) (ms15 t) fullShare ((dats T c).after 15 t) ∗ (∃ X, ⌜leavesG T c 16 t X⌝ ∗ owns (c : Thread nD τ) (ms16 t) fullShare X))) := by
  simp only [before0, before1, before2, before3, before4, before5, before6, before7, before8, before9, before10, before11, before12, before13, before14, before15, refill0, refill1, refill3, refill4, after2, after5, after6, after7, after8, after9, after10, after11, after12, after13, after14, after15]
  rw [show (dats T c).Φ t.castSucc = Phi T c t.val from rfl, show (dats T c).Φ t.succ = Phi T c (t.val + 1) from rfl,
    show (dats T c).owesAt () t.succ = (dats T c).owesAt () t.castSucc from rfl]
  unfold Phi scrOwn
  iintro ⟨⟨%s, %hs, ⟨G0, G1, G2, G3, G4, G5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y, %hY, H16⟩⟩
  iapply (point c t (fil0 m c t d0) (fil1 m c t d1) (iblk m c 2 t) (fil3 m c t d3) (fil4 m c t d4) (iblk m c 5 t) (iblk m c 6 t) (iblk m c 7 t) (iblk m c 8 t) (iblk m c 9 t) (iblk m c 10 t) (iblk m c 11 t) (iblk m c 12 t) (iblk m c 13 t) (iblk m c 14 t) (iblk m c 15 t) Y s
    (fun s' Y' => T.Inv c (t.val + 1) s' ∧ (t.val = 19 → T.G c Y')) iprop((∃ r, prngReg c r) ∗ (dats T c).owesAt () t.castSucc) Set.univ _
    (fun h => ⟨T.hA c t d0 d1 d3 d4 s h hs, fun h' => by omega⟩)
    (fun h1 h2 => ⟨T.hB c t d0 d1 d3 d4 s h1 h2 hs, fun h' => by omega⟩)
    (fun h => ⟨T.hC c t d0 d1 d3 d4 s h hs, fun h' => by omega⟩)
    (fun h1 h2 => ⟨T.hD c t d0 d1 d3 d4 s h1 hs, fun h' => by omega⟩)
    (fun h => ⟨T.hD c t d0 d1 d3 d4 s (by omega) hs, fun h' => T.hE c t d0 d1 d3 d4 _ h (T.hD c t d0 d1 d3 d4 s (by omega) hs)⟩)
    (fun s' Y' hP => by
      iintro ⟨H0, H1, H2, H3, H4, H5, H6, H7, H8, H9, H10, H11, H12, H13, H14, H15, H16, G0, G1, G2, G3, G4, G5, Hg, Ho⟩
      isplitl [G0 G1 G2 G3 G4 G5 Hg]
      · iexists s'; isplitr
        · ipureintro; exact hP.1
        isplitl [G0 G1 G2 G3 G4 G5]
        · isplitl [G0]; (· iexact G0); isplitl [G1]; (· iexact G1); isplitl [G2]; (· iexact G2); isplitl [G3]; (· iexact G3); isplitl [G4]; (· iexact G4)
          iexact G5
        iexact Hg
      isplitl [Ho]; · iexact Ho
      isplitl [H0]; · iexists d0; iapply (Entails.of_eq (congrArg (owns (c : Thread nD τ) (ms0 t) fullShare) (refill0 T c t d0).symm)); iexact H0
      isplitl [H1]; · iexists d1; iapply (Entails.of_eq (congrArg (owns (c : Thread nD τ) (ms1 t) fullShare) (refill1 T c t d1).symm)); iexact H1
      isplitl [H2]; · iexact H2
      isplitl [H3]; · iexists d3; iapply (Entails.of_eq (congrArg (owns (c : Thread nD τ) (ms3 t) fullShare) (refill3 T c t d3).symm)); iexact H3
      isplitl [H4]; · iexists d4; iapply (Entails.of_eq (congrArg (owns (c : Thread nD τ) (ms4 t) fullShare) (refill4 T c t d4).symm)); iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexists Y'; isplitr
      · ipureintro; exact hP.2
      iexact H16))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [G0]; · iexact G0
  isplitl [G1]; · iexact G1
  isplitl [G2]; · iexact G2
  isplitl [G3]; · iexact G3
  isplitl [G4]; · iexact G4
  isplitl [G5]; · iexact G5
  isplitl [Hg]; · iexact Hg
  iexact Ho

theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : BodyObligationRel (dats T c) (defs₀ (F := F)) Variants.none () Set.univ isRes (leavesG T c) := fun t => by
  rw [bigSep_W0, bigSep_W0, defs₀_row]
  exact triple_restated (sound_body T c t) rfl .rfl fun _ => .rfl

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- The launch hands the scratch over at anything, -/
theorem hin (c : Dev nD) : Pipeline.ΦA spec0 c ⊢ (dats T c).Φ 0 := by
  rw [show (dats T c).Φ 0 = Phi T c 0 from rfl, PhiA_eq]; unfold Phi scrOwn
  iintro ⟨⟨⟨%g0, G0⟩, ⟨%g1, G1⟩, ⟨%g2, G2⟩, ⟨%g3, G3⟩, ⟨%g4, G4⟩, ⟨%g5, G5⟩⟩, Hg⟩
  iexists ⟨g0, g1, g2, g3, g4, g5⟩; isplitr
  · ipureintro; exact T.init c _
  isplitl [G0 G1 G2 G3 G4 G5]
  · isplitl [G0]; · iexact G0
    isplitl [G1]; · iexact G1
    isplitl [G2]; · iexact G2
    isplitl [G3]; · iexact G3
    isplitl [G4]; · iexact G4
    iexact G5
  iexact Hg

/-- and takes it back at anything. -/
theorem hout (c : Dev nD) : (dats T c).Φ (Fin.last cfg0.N) ⊢ Pipeline.ΦA spec0 c := by
  rw [show (dats T c).Φ (Fin.last cfg0.N) = Phi T c (Fin.last cfg0.N).val from rfl, PhiA_eq]; unfold Phi scrOwn
  iintro ⟨%s, %hs, ⟨G0, G1, G2, G3, G4, G5⟩, Hg⟩
  isplitl [G0 G1 G2 G3 G4 G5]
  · isplitl [G0]; · iexists _; iexact G0
    isplitl [G1]; · iexists _; iexact G1
    isplitl [G2]; · iexists _; iexact G2
    isplitl [G3]; · iexists _; iexact G3
    isplitl [G4]; · iexists _; iexact G4
    iexists _; iexact G5
  iexact Hg

set_option backward.isDefEq.respectTransparency.types false in
/-- The launch: every argument's array unchanged, the result the relation's, every counter zero. -/
theorem run_main : θ_run defs (onTc (τ := τ) (main (F := F))) (s₀ m ρ)
    (fun r => Pipeline.RDat.FramePost cfg0 (fun c => (dats T c).toRRel isRes (leavesG T c)) (V m) r ∧ r.2.sem = fun _ => 0) :=
  Pipeline.RDat.θ_run_frame_track cfgs (0 : Fin 1) launch0 defs₀ Variants.none (fun c => (dats T c).toRRel isRes (leavesG T c)) m ρ main
    (hbody := fun c => (body_obligation T c).toRRel) (hshare := fun c => (dats T c).share_full fun _ => rfl)
    (howed := fun _ _ => rfl) (V := V m) (hmain := hmain m Variants.none) (hA := A_eq T) (hin := hin T) (hout := hout T)
    (Q' := fun r => Pipeline.RDat.FramePost cfg0 (fun c => (dats T c).toRRel isRes (leavesG T c)) (V m) r ∧ r.2.sem = fun _ => 0)
    (hQ' := fun _ h => h)

end Cert.KernelIdeal.Body

end
-- ==== Proof.FrameKI.lean ====
/- The frame: every argument as it was, every counter at zero. -/
module

public import proofs.«01_k».proof.Proof.LaunchKI

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F] {m : (ℓ : Loc nD τ sig) → Buf (Elt F) ℓ}

/-- What the launch leaves of the sixteen arguments: each as it was. -/
theorem args_kept (T : Track (F := F) m) {r : PUnit × MemSt nD τ sig (Elt F)}
    (h : Pipeline.RDat.FramePost cfg0 (fun c => (dats T c).toRRel isRes (leavesG T c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(Pipeline.RDat.FramePost.arr_in h c 0 rfl).trans ((A_eq T c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 6 rfl).trans ((A_eq T c 6).trans (V_main_arg3 m c)),
    (Pipeline.RDat.FramePost.arr_in h c 2 rfl).trans ((A_eq T c 2).trans (V_main_arg4 m c)),
    ((h c).2 main_arg5 (Pipeline.mem_restRefs_of main_arg5 (by decide) (by decide))).trans (V_main_arg5 m c),
    (Pipeline.RDat.FramePost.arr_in h c 1 rfl).trans ((A_eq T c 1).trans (V_main_arg6 m c)),
    ((h c).2 main_arg7 (Pipeline.mem_restRefs_of main_arg7 (by decide) (by decide))).trans (V_main_arg7 m c),
    (Pipeline.RDat.FramePost.arr_in h c 4 rfl).trans ((A_eq T c 4).trans (V_main_arg8 m c)),
    ((h c).2 main_arg9 (Pipeline.mem_restRefs_of main_arg9 (by decide) (by decide))).trans (V_main_arg9 m c),
    (Pipeline.RDat.FramePost.arr_in h c 10 rfl).trans ((A_eq T c 10).trans (V_main_arg10 m c)),
    ((h c).2 main_arg11 (Pipeline.mem_restRefs_of main_arg11 (by decide) (by decide))).trans (V_main_arg11 m c),
    (Pipeline.RDat.FramePost.arr_in h c 12 rfl).trans ((A_eq T c 12).trans (V_main_arg12 m c)),
    ((h c).2 main_arg13 (Pipeline.mem_restRefs_of main_arg13 (by decide) (by decide))).trans (V_main_arg13 m c),
    (Pipeline.RDat.FramePost.arr_in h c 14 rfl).trans ((A_eq T c 14).trans (V_main_arg14 m c)),
    ((h c).2 main_arg15 (Pipeline.mem_restRefs_of main_arg15 (by decide) (by decide))).trans (V_main_arg15 m c)⟩

/-- Nothing asked of the scratch, nothing of the result. -/
def anyTrack (m : (ℓ : Loc nD τ sig) → Buf (Elt F) ℓ) : Track (F := F) m where
  Inv _ _ _ := True
  G _ _ := True
  init _ _ := trivial
  hA _ _ _ _ _ _ _ _ _ := trivial
  hB _ _ _ _ _ _ _ _ _ _ := trivial
  hC _ _ _ _ _ _ _ _ _ := trivial
  hD _ _ _ _ _ _ _ _ _ := trivial
  hE _ _ _ _ _ _ _ _ _ := trivial

/-- The program ends, its arguments as they were and every counter at zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun _ h => ⟨args_kept (anyTrack m) h.1, h.2⟩) (run_main ρ (anyTrack m))

end Cert.KernelIdeal.Body

end
-- ==== Proof.ReadNode.lean ====
/- A node point's product read at an entry, through the thirty-two slices of its weight block. -/
module

public import proofs.«01_k».proof.Proof.StepKI
public import Idealize.ShloMosaic.Lib.Pointwise
public import Idealize.ShloMosaic.Lib.Pipeline.Value
public import Idealize.ShloMosaic.Lib.Tactic.WordOmega

@[expose] public section

set_option maxRecDepth 16384

noncomputable section

namespace Cert.KernelIdeal.Read

open Cert.KernelIdeal Cert.KernelIdeal.Gen Cert.KernelIdeal.Body
open Idealize.ShloMosaic

/-- One of the thirty-two slices of a node point's weight block: a row of the middle axis. -/
theorem piece {α : Type} (v : S128x32x192.Idx → α) (o : ℕ) (h : S128x32x192.Slices ![0, o, 0] S128x1x192)
    (hc : S128x1x192.ShapeCasts S128x192) (ho : o < 32) :
    shapeCast S128x192 (extractStridedSlice S128x1x192 ![0, o, 0] v h) hc = fun i => v (ix3 (i 0) ⟨o, ho⟩ (i 1)) := by
  funext i; idx_vars i; pointwise

theorem concat_congr {α : Type} (t : Shape) (a : Fin t.rank) (l l' : List ((s : Shape) × (s.Idx → α))) (h) (e : l = l') :
    concatenate t a l h = concatenate t a l' (e ▸ h) := by
  subst e; rfl

theorem cons_congr {α : Type} {s : Shape} {v v' : s.Idx → α} {l l' : List ((s : Shape) × (s.Idx → α))} (e : v = v') (e' : l = l') :
    (⟨s, v⟩ : (s : Shape) × (s.Idx → α)) :: l = ⟨s, v'⟩ :: l' := by
  subst e e'; rfl

/-- The thirty-two slices side by side, read at a column: the slice the column lies in. -/
theorem cat_read {α : Type} (v : S128x32x192.Idx → α) (h) (j : S128x6144.Idx) :
    concatenate S128x6144 1 [⟨S128x192, fun i => v (ix3 (i 0) ⟨0, by decide⟩ (i 1))⟩, ⟨S128x192, fun i => v (ix3 (i 0) ⟨1, by decide⟩ (i 1))⟩, ⟨S128x192, fun i => v (ix3 (i 0) ⟨2, by decide⟩ (i 1))⟩, ⟨S128x192, fun i => v (ix3 (i 0) ⟨3, by decide⟩ (i 1))⟩, ⟨S128x192, fun i => v (ix3 (i 0) ⟨4, by decide⟩ (i 1))⟩, ⟨S128x192, fun i => v (ix3 (i 0) ⟨5, by decide⟩ (i 1))⟩, ⟨S128x192, fun i => v (ix3 (i 0) ⟨6, by decide⟩ (i 1))⟩, ⟨S128x192, fun i => v (ix3 (i 0) ⟨7, by decide⟩ (i 1))⟩, ⟨S128x192, fun i => v (ix3 (i 0) ⟨8, by decide⟩ (i 1))⟩, ⟨S128x192, fun i => v (ix3 (i 0) ⟨9, by decide⟩ (i 1))⟩, ⟨S128x192, fun i => v (ix3 (i 0) ⟨10, by decide⟩ (i 1))⟩, ⟨S128x192, fun i => v (ix3 (i 0) ⟨11, by decide⟩ (i 1))⟩, ⟨S128x192, fun i => v (ix3 (i 0) ⟨12, by decide⟩ (i 1))⟩, ⟨S128x192, fun i => v (ix3 (i 0) ⟨13, by decide⟩ (i 1))⟩, ⟨S128x192, fun i => v (ix3 (i 0) ⟨14, by decide⟩ (i 1))⟩, ⟨S128x192, fun i => v (ix3 (i 0) ⟨15, by decide⟩ (i 1))⟩, ⟨S128x192, fun i => v (ix3 (i 0) ⟨16, by decide⟩ (i 1))⟩, ⟨S128x192, fun i => v (ix3 (i 0) ⟨17, by decide⟩ (i 1))⟩, ⟨S128x192, fun i => v (ix3 (i 0) ⟨18, by decide⟩ (i 1))⟩, ⟨S128x192, fun i => v (ix3 (i 0) ⟨19, by decide⟩ (i 1))⟩, ⟨S128x192, fun i => v (ix3 (i 0) ⟨20, by decide⟩ (i 1))⟩, ⟨S128x192, fun i => v (ix3 (i 0) ⟨21, by decide⟩ (i 1))⟩, ⟨S128x192, fun i => v (ix3 (i 0) ⟨22, by decide⟩ (i 1))⟩, ⟨S128x192, fun i => v (ix3 (i 0) ⟨23, by decide⟩ (i 1))⟩, ⟨S128x192, fun i => v (ix3 (i 0) ⟨24, by decide⟩ (i 1))⟩, ⟨S128x192, fun i => v (ix3 (i 0) ⟨25, by decide⟩ (i 1))⟩, ⟨S128x192, fun i => v (ix3 (i 0) ⟨26, by decide⟩ (i 1))⟩, ⟨S128x192, fun i => v (ix3 (i 0) ⟨27, by decide⟩ (i 1))⟩, ⟨S128x192, fun i => v (ix3 (i 0) ⟨28, by decide⟩ (i 1))⟩, ⟨S128x192, fun i => v (ix3 (i 0) ⟨29, by decide⟩ (i 1))⟩, ⟨S128x192, fun i => v (ix3 (i 0) ⟨30, by decide⟩ (i 1))⟩, ⟨S128x192, fun i => v (ix3 (i 0) ⟨31, by decide⟩ (i 1))⟩] h j
      = v (ix3 (j 0) ⟨(j 1).val / 192, by have := (j 1).isLt; change (j 1).val < 6144 at this; omega⟩ ⟨(j 1).val % 192, Nat.mod_lt _ (by decide)⟩) := by
  have hj : (j 1).val < 6144 := (j 1).isLt
  exact concatenate_ofFn_apply (s₁ := S128x192) (t := S128x6144) 1 (fun n : Fin 32 => fun i => v (ix3 (i 0) n (i 1))) h rfl 192 rfl j
    ⟨(j 1).val / 192, by omega⟩ rfl (ix2 (j 0) ⟨(j 1).val % 192, Nat.mod_lt _ (by decide)⟩) rfl
    (fun b hb => by
      fin_cases b
      · rfl
      · exact absurd rfl hb)

/-- The same of the slices as the kernel cuts them. -/
theorem cut_read {α : Type} (v : S128x32x192.Idx → α) (h) (j : S128x6144.Idx) :
    concatenate S128x6144 1 [⟨S128x192, shapeCast S128x192 (extractStridedSlice S128x1x192 ![0, 0, 0] v slices_S128x32x192_o0_0_0_S128x1x192) shapeCasts_S128x1x192_S128x192⟩, ⟨S128x192, shapeCast S128x192 (extractStridedSlice S128x1x192 ![0, 1, 0] v slices_S128x32x192_o0_1_0_S128x1x192) shapeCasts_S128x1x192_S128x192⟩, ⟨S128x192, shapeCast S128x192 (extractStridedSlice S128x1x192 ![0, 2, 0] v slices_S128x32x192_o0_2_0_S128x1x192) shapeCasts_S128x1x192_S128x192⟩, ⟨S128x192, shapeCast S128x192 (extractStridedSlice S128x1x192 ![0, 3, 0] v slices_S128x32x192_o0_3_0_S128x1x192) shapeCasts_S128x1x192_S128x192⟩, ⟨S128x192, shapeCast S128x192 (extractStridedSlice S128x1x192 ![0, 4, 0] v slices_S128x32x192_o0_4_0_S128x1x192) shapeCasts_S128x1x192_S128x192⟩, ⟨S128x192, shapeCast S128x192 (extractStridedSlice S128x1x192 ![0, 5, 0] v slices_S128x32x192_o0_5_0_S128x1x192) shapeCasts_S128x1x192_S128x192⟩, ⟨S128x192, shapeCast S128x192 (extractStridedSlice S128x1x192 ![0, 6, 0] v slices_S128x32x192_o0_6_0_S128x1x192) shapeCasts_S128x1x192_S128x192⟩, ⟨S128x192, shapeCast S128x192 (extractStridedSlice S128x1x192 ![0, 7, 0] v slices_S128x32x192_o0_7_0_S128x1x192) shapeCasts_S128x1x192_S128x192⟩, ⟨S128x192, shapeCast S128x192 (extractStridedSlice S128x1x192 ![0, 8, 0] v slices_S128x32x192_o0_8_0_S128x1x192) shapeCasts_S128x1x192_S128x192⟩, ⟨S128x192, shapeCast S128x192 (extractStridedSlice S128x1x192 ![0, 9, 0] v slices_S128x32x192_o0_9_0_S128x1x192) shapeCasts_S128x1x192_S128x192⟩, ⟨S128x192, shapeCast S128x192 (extractStridedSlice S128x1x192 ![0, 10, 0] v slices_S128x32x192_o0_10_0_S128x1x192) shapeCasts_S128x1x192_S128x192⟩, ⟨S128x192, shapeCast S128x192 (extractStridedSlice S128x1x192 ![0, 11, 0] v slices_S128x32x192_o0_11_0_S128x1x192) shapeCasts_S128x1x192_S128x192⟩, ⟨S128x192, shapeCast S128x192 (extractStridedSlice S128x1x192 ![0, 12, 0] v slices_S128x32x192_o0_12_0_S128x1x192) shapeCasts_S128x1x192_S128x192⟩, ⟨S128x192, shapeCast S128x192 (extractStridedSlice S128x1x192 ![0, 13, 0] v slices_S128x32x192_o0_13_0_S128x1x192) shapeCasts_S128x1x192_S128x192⟩, ⟨S128x192, shapeCast S128x192 (extractStridedSlice S128x1x192 ![0, 14, 0] v slices_S128x32x192_o0_14_0_S128x1x192) shapeCasts_S128x1x192_S128x192⟩, ⟨S128x192, shapeCast S128x192 (extractStridedSlice S128x1x192 ![0, 15, 0] v slices_S128x32x192_o0_15_0_S128x1x192) shapeCasts_S128x1x192_S128x192⟩, ⟨S128x192, shapeCast S128x192 (extractStridedSlice S128x1x192 ![0, 16, 0] v slices_S128x32x192_o0_16_0_S128x1x192) shapeCasts_S128x1x192_S128x192⟩, ⟨S128x192, shapeCast S128x192 (extractStridedSlice S128x1x192 ![0, 17, 0] v slices_S128x32x192_o0_17_0_S128x1x192) shapeCasts_S128x1x192_S128x192⟩, ⟨S128x192, shapeCast S128x192 (extractStridedSlice S128x1x192 ![0, 18, 0] v slices_S128x32x192_o0_18_0_S128x1x192) shapeCasts_S128x1x192_S128x192⟩, ⟨S128x192, shapeCast S128x192 (extractStridedSlice S128x1x192 ![0, 19, 0] v slices_S128x32x192_o0_19_0_S128x1x192) shapeCasts_S128x1x192_S128x192⟩, ⟨S128x192, shapeCast S128x192 (extractStridedSlice S128x1x192 ![0, 20, 0] v slices_S128x32x192_o0_20_0_S128x1x192) shapeCasts_S128x1x192_S128x192⟩, ⟨S128x192, shapeCast S128x192 (extractStridedSlice S128x1x192 ![0, 21, 0] v slices_S128x32x192_o0_21_0_S128x1x192) shapeCasts_S128x1x192_S128x192⟩, ⟨S128x192, shapeCast S128x192 (extractStridedSlice S128x1x192 ![0, 22, 0] v slices_S128x32x192_o0_22_0_S128x1x192) shapeCasts_S128x1x192_S128x192⟩, ⟨S128x192, shapeCast S128x192 (extractStridedSlice S128x1x192 ![0, 23, 0] v slices_S128x32x192_o0_23_0_S128x1x192) shapeCasts_S128x1x192_S128x192⟩, ⟨S128x192, shapeCast S128x192 (extractStridedSlice S128x1x192 ![0, 24, 0] v slices_S128x32x192_o0_24_0_S128x1x192) shapeCasts_S128x1x192_S128x192⟩, ⟨S128x192, shapeCast S128x192 (extractStridedSlice S128x1x192 ![0, 25, 0] v slices_S128x32x192_o0_25_0_S128x1x192) shapeCasts_S128x1x192_S128x192⟩, ⟨S128x192, shapeCast S128x192 (extractStridedSlice S128x1x192 ![0, 26, 0] v slices_S128x32x192_o0_26_0_S128x1x192) shapeCasts_S128x1x192_S128x192⟩, ⟨S128x192, shapeCast S128x192 (extractStridedSlice S128x1x192 ![0, 27, 0] v slices_S128x32x192_o0_27_0_S128x1x192) shapeCasts_S128x1x192_S128x192⟩, ⟨S128x192, shapeCast S128x192 (extractStridedSlice S128x1x192 ![0, 28, 0] v slices_S128x32x192_o0_28_0_S128x1x192) shapeCasts_S128x1x192_S128x192⟩, ⟨S128x192, shapeCast S128x192 (extractStridedSlice S128x1x192 ![0, 29, 0] v slices_S128x32x192_o0_29_0_S128x1x192) shapeCasts_S128x1x192_S128x192⟩, ⟨S128x192, shapeCast S128x192 (extractStridedSlice S128x1x192 ![0, 30, 0] v slices_S128x32x192_o0_30_0_S128x1x192) shapeCasts_S128x1x192_S128x192⟩, ⟨S128x192, shapeCast S128x192 (extractStridedSlice S128x1x192 ![0, 31, 0] v slices_S128x32x192_o0_31_0_S128x1x192) shapeCasts_S128x1x192_S128x192⟩] h j
      = v (ix3 (j 0) ⟨(j 1).val / 192, by have := (j 1).isLt; change (j 1).val < 6144 at this; omega⟩ ⟨(j 1).val % 192, Nat.mod_lt _ (by decide)⟩) := by
  rw [concat_congr S128x6144 1 _ [⟨S128x192, fun i => v (ix3 (i 0) ⟨0, by decide⟩ (i 1))⟩, ⟨S128x192, fun i => v (ix3 (i 0) ⟨1, by decide⟩ (i 1))⟩, ⟨S128x192, fun i => v (ix3 (i 0) ⟨2, by decide⟩ (i 1))⟩, ⟨S128x192, fun i => v (ix3 (i 0) ⟨3, by decide⟩ (i 1))⟩, ⟨S128x192, fun i => v (ix3 (i 0) ⟨4, by decide⟩ (i 1))⟩, ⟨S128x192, fun i => v (ix3 (i 0) ⟨5, by decide⟩ (i 1))⟩, ⟨S128x192, fun i => v (ix3 (i 0) ⟨6, by decide⟩ (i 1))⟩, ⟨S128x192, fun i => v (ix3 (i 0) ⟨7, by decide⟩ (i 1))⟩, ⟨S128x192, fun i => v (ix3 (i 0) ⟨8, by decide⟩ (i 1))⟩, ⟨S128x192, fun i => v (ix3 (i 0) ⟨9, by decide⟩ (i 1))⟩, ⟨S128x192, fun i => v (ix3 (i 0) ⟨10, by decide⟩ (i 1))⟩, ⟨S128x192, fun i => v (ix3 (i 0) ⟨11, by decide⟩ (i 1))⟩, ⟨S128x192, fun i => v (ix3 (i 0) ⟨12, by decide⟩ (i 1))⟩, ⟨S128x192, fun i => v (ix3 (i 0) ⟨13, by decide⟩ (i 1))⟩, ⟨S128x192, fun i => v (ix3 (i 0) ⟨14, by decide⟩ (i 1))⟩, ⟨S128x192, fun i => v (ix3 (i 0) ⟨15, by decide⟩ (i 1))⟩, ⟨S128x192, fun i => v (ix3 (i 0) ⟨16, by decide⟩ (i 1))⟩, ⟨S128x192, fun i => v (ix3 (i 0) ⟨17, by decide⟩ (i 1))⟩, ⟨S128x192, fun i => v (ix3 (i 0) ⟨18, by decide⟩ (i 1))⟩, ⟨S128x192, fun i => v (ix3 (i 0) ⟨19, by decide⟩ (i 1))⟩, ⟨S128x192, fun i => v (ix3 (i 0) ⟨20, by decide⟩ (i 1))⟩, ⟨S128x192, fun i => v (ix3 (i 0) ⟨21, by decide⟩ (i 1))⟩, ⟨S128x192, fun i => v (ix3 (i 0) ⟨22, by decide⟩ (i 1))⟩, ⟨S128x192, fun i => v (ix3 (i 0) ⟨23, by decide⟩ (i 1))⟩, ⟨S128x192, fun i => v (ix3 (i 0) ⟨24, by decide⟩ (i 1))⟩, ⟨S128x192, fun i => v (ix3 (i 0) ⟨25, by decide⟩ (i 1))⟩, ⟨S128x192, fun i => v (ix3 (i 0) ⟨26, by decide⟩ (i 1))⟩, ⟨S128x192, fun i => v (ix3 (i 0) ⟨27, by decide⟩ (i 1))⟩, ⟨S128x192, fun i => v (ix3 (i 0) ⟨28, by decide⟩ (i 1))⟩, ⟨S128x192, fun i => v (ix3 (i 0) ⟨29, by decide⟩ (i 1))⟩, ⟨S128x192, fun i => v (ix3 (i 0) ⟨30, by decide⟩ (i 1))⟩, ⟨S128x192, fun i => v (ix3 (i 0) ⟨31, by decide⟩ (i 1))⟩] h (by repeat' (first | exact rfl | refine cons_congr (piece v _ _ _ (by decide)) ?_))]
  exact cat_read v _ j

/-- A node point's product, entry by entry. -/
theorem contrib_read (i : grid0.Coords) (x0 : Vec Ideal S256x128 .f32) (x1 : Vec Ideal S192x4096 .f32) (n : Fin 256) (q : Fin 6144) :
    contrib i x0 x1 (ix2 n q) = ∑ k : Fin 128, k0_pay37 (pt i) x0 (ix2 n k)
      * k0_pay15 (pt i) x1 (ix3 k ⟨q.val / 192, by omega⟩ ⟨q.val % 192, Nat.mod_lt _ (by decide)⟩) := by
  unfold contrib
  unfold k0_pay38 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36
  generalize hV : k0_pay15 (pt i) x1 = V
  generalize hX : k0_pay37 (pt i) x0 = X
  dsimp only
  have hc := fun h => (funext (cut_read (α := Ideal .bf16) V h) : _ = fun j => _)
  rw [hc]
  clear hc
  pointwise

end Cert.KernelIdeal.Read

end
-- ==== Proof.ReadMask.lean ====
/- The masks, the one-hots and the selection matrix read at an entry. -/
module

public import proofs.«01_k».proof.Proof.StepKI
public import Idealize.ShloMosaic.Lib.Pointwise
public import Idealize.ShloMosaic.Lib.Tactic.WordOmega
public import Idealize.ShloMosaic.Lib.Routing.BitFacts

@[expose] public section

set_option maxRecDepth 16384

noncomputable section

namespace Cert.KernelIdeal.Read

open Cert.KernelIdeal Cert.KernelIdeal.Gen Cert.KernelIdeal.Body
open Idealize.ShloMosaic

/-- A choice on a word test is the choice on the proposition the test decides. -/
theorem select_of {α : Type} (p : BitVec 1) (P : Prop) [Decidable P] (h1 : P → p = 1#1) (h0 : ¬ P → p = 0#1) (a b : α) :
    Scalar.select p a b = if P then a else b := by
  by_cases h : P
  · rw [h1 h, if_pos h]; rfl
  · rw [h0 h, if_neg h]; rfl

/-- An equality test turned into a number: one when equal, zero when not. -/
theorem flag_of (a b : BitVec 32) (P : Prop) [Decidable P] (h : a = b ↔ P) :
    (FloatOps.sitofp (F := Ideal) FTy.f32 (BitVec.setWidth 32 (IntOp.cmpi CmpIPredicate.eq a b)) : EReal) = if P then 1 else 0 := by
  by_cases hp : P
  · rw [if_pos hp, WordCmp.cmpi_eq_eq, decide_eq_true (h.2 hp)]
    show (((1 : ℤ) : ℝ) : EReal) = 1
    norm_num
  · rw [if_neg hp, WordCmp.cmpi_eq_eq, decide_eq_false (fun e => hp (h.1 e))]
    show (((0 : ℤ) : ℝ) : EReal) = 0
    norm_num

theorem muli_word {t : ℕ} (ht : t < 4) : Scalar.muli (BitVec.ofNat 32 t) 128#32 = BitVec.ofNat 32 (128 * t) ∧
    Scalar.muli (Scalar.muli (BitVec.ofNat 32 t) 128#32) 32#32 = BitVec.ofNat 32 (4096 * t) := by
  have h : t = 0 ∨ t = 1 ∨ t = 2 ∨ t = 3 := by omega
  rcases h with rfl | rfl | rfl | rfl <;> exact ⟨rfl, rfl⟩

/-- A weight block with the columns past the end of the array cut to zero. -/
theorem pay15_read (t : ℕ) (ht : t < 4) (x1 : Vec Ideal S192x4096 .f32) (k : Fin 128) (o : Fin 32) (h : Fin 192) :
    k0_pay15 (BitVec.ofNat 32 t) x1 (ix3 k o h)
      = if 4096 * t + (32 * k.val + o.val) < 16320 then x1 (ix2 h ⟨32 * k.val + o.val, by omega⟩) else 0 := by
  pointwise [k0_pay15]
  have e : (⟨k.val * 32 + o.val, by omega⟩ : Fin 4096) = ⟨32 * k.val + o.val, by omega⟩ := Fin.ext (by simp only; omega)
  rw [e, (muli_word ht).2]
  exact select_of _ _ (fun h => by word_omega) (fun h => by word_omega) _ _

/-- A block of node features with the columns past the end of the array cut to zero. -/
theorem pay37_read (t : ℕ) (ht : t < 4) (x0 : Vec Ideal S256x128 .f32) (n : Fin 256) (k : Fin 128) :
    k0_pay37 (BitVec.ofNat 32 t) x0 (ix2 n k) = if 128 * t + k.val < 510 then x0 (ix2 n k) else 0 := by
  pointwise [k0_pay37]
  rw [(muli_word ht).1]
  exact select_of _ _ (fun h => by word_omega) (fun h => by word_omega) _ _

/-- A node point's product with the bias matrix, -/
theorem xb_read (i : grid0.Coords) (x0 : Vec Ideal S256x128 .f32) (x3 : Vec Ideal S128x32 .f32) (n : Fin 256) (o : Fin 32) :
    xbTerm i x0 x3 (ix2 n o) = ∑ k : Fin 128, k0_pay37 (pt i) x0 (ix2 n k) * x3 (ix2 k o) := by
  unfold xbTerm k0_pay39
  generalize k0_pay37 (pt i) x0 = X
  pointwise

/-- and with the root weight. -/
theorem xr_read (i : grid0.Coords) (x0 : Vec Ideal S256x128 .f32) (x4 : Vec Ideal S128x32 .f32) (n : Fin 256) (o : Fin 32) :
    xrTerm i x0 x4 (ix2 n o) = ∑ k : Fin 128, k0_pay37 (pt i) x0 (ix2 n k) * x4 (ix2 k o) := by
  unfold xrTerm k0_pay40
  generalize k0_pay37 (pt i) x0 = X
  pointwise

/-- The quotient by 192, rounded down: the truncated quotient, as no row number is negative. -/
theorem sel_word (r : ℕ) (hr : r < 6144) :
    (Scalar.select
            (IntOp.andi
              (IntOp.cmpi CmpIPredicate.ne
                (IntOp.subi (BitVec.setWidth 32 (IntOp.cmpi CmpIPredicate.sgt (BitVec.ofNat 32 r) 0#32))
                  (BitVec.setWidth 32 (IntOp.cmpi CmpIPredicate.slt (BitVec.ofNat 32 r) 0#32)))
                (Scalar.subi (Scalar.extui (Scalar.cmpi CmpIPredicate.sgt 192#32 0#32))
                  (Scalar.extui (Scalar.cmpi CmpIPredicate.slt 192#32 0#32))))
              (IntOp.cmpi CmpIPredicate.ne (IntOp.remsi ArithUnit.vector (BitVec.ofNat 32 r) 192#32) 0#32))
            (IntOp.subi (IntOp.divsi ArithUnit.vector (BitVec.ofNat 32 r) 192#32) 1#32)
            (IntOp.divsi ArithUnit.vector (BitVec.ofNat 32 r) 192#32)) = BitVec.ofNat 32 (r / 192) := by
  have hN : (BitVec.ofNat 32 r).toNat = r := by rw [BitVec.toNat_ofNat]; omega
  have hd : IntOp.divsi ArithUnit.vector (BitVec.ofNat 32 r) 192#32 = BitVec.ofNat 32 (r / 192) := by
    unfold IntOp.divsi
    rw [if_neg (by intro h; rcases h with h | h <;> revert h <;> simp)]
    exact Idealize.ShloMosaic.Routing.sdiv_ofNat32 (by omega) (by decide)
  rw [hd]
  rcases Nat.eq_zero_or_pos r with rfl | h0
  · rfl
  · have h1 : IntOp.cmpi CmpIPredicate.sgt (BitVec.ofNat 32 r) 0#32 = 1#1 := by word_omega
    have h2 : IntOp.cmpi CmpIPredicate.slt (BitVec.ofNat 32 r) 0#32 = 0#1 := by word_omega
    rw [h1, h2, show IntOp.cmpi CmpIPredicate.ne (IntOp.subi (BitVec.setWidth 32 1#1) (BitVec.setWidth 32 0#1))
                (Scalar.subi (Scalar.extui (Scalar.cmpi CmpIPredicate.sgt 192#32 0#32))
                  (Scalar.extui (Scalar.cmpi CmpIPredicate.slt 192#32 0#32))) = 0#1 from rfl]
    generalize IntOp.cmpi CmpIPredicate.ne (IntOp.remsi ArithUnit.vector (BitVec.ofNat 32 r) 192#32) 0#32 = z
    rw [show IntOp.andi 0#1 z = 0#1 from BitVec.zero_and]
    rfl

/-- The selection matrix: one where the row's group of 192 is the column. -/
theorem sel_read (r : Fin 6144) (o : Fin 32) : selMat (F := Ideal) (ix2 r o) = if r.val / 192 = o.val then 1 else 0 := by
  pointwise [selMat, k0_pay41, k0_pay12, k0_pay13, k0_pay14]
  have hr := r.isLt
  have ho := o.isLt
  refine flag_of _ _ _ ?_
  rw [sel_word r.val hr]
  exact ⟨fun h => by word_omega, fun h => by word_omega⟩

/-- The source one-hot of an edge block. -/
theorem pf_read (x7 : Vec Ideal S256x1 .i32) (e n : Fin 256) :
    k0_pay67 x7 (ix2 e n) = if x7 (ix2 e 0) = BitVec.ofNat 32 n.val then (1 : EReal) else 0 := by
  pointwise [k0_pay67, k0_pay66]
  exact flag_of _ _ _ Iff.rfl

/-- The destination one-hot of an edge block. -/
theorem dt_read (x8 : Vec Ideal S1x1x256 .i32) (n e : Fin 256) :
    k0_pay68 x8 (ix2 n e) = if x8 (ix3 0 0 e) = BitVec.ofNat 32 n.val then (1 : EReal) else 0 := by
  pointwise [k0_pay68]
  exact flag_of _ _ _ Iff.rfl

end Cert.KernelIdeal.Read

end
-- ==== Proof.ReadEdge.lean ====
/- An edge point's operations read at an entry: the hidden layer, the messages, the scattered sums. -/
module

public import proofs.«01_k».proof.Proof.ReadNode
public import proofs.«01_k».proof.Proof.ReadMask

@[expose] public section

set_option maxRecDepth 16384

noncomputable section

namespace Cert.KernelIdeal.Read

open Cert.KernelIdeal Cert.KernelIdeal.Gen Cert.KernelIdeal.Body
open Idealize.ShloMosaic

/-- Thirty-two copies of a table side by side, read at a column. -/
theorem copies_read {α : Type} (v : S256x192.Idx → α) (h) (j : S256x6144.Idx) :
    concatenate S256x6144 1 [⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩, ⟨S256x192, v⟩] h j = v (ix2 (j 0) ⟨(j 1).val % 192, Nat.mod_lt _ (by decide)⟩) := by
  have hj : (j 1).val < 6144 := (j 1).isLt
  exact concatenate_ofFn_apply (s₁ := S256x192) (t := S256x6144) 1 (fun _ : Fin 32 => v) h rfl 192 rfl j
    ⟨(j 1).val / 192, by omega⟩ rfl (ix2 (j 0) ⟨(j 1).val % 192, Nat.mod_lt _ (by decide)⟩) rfl
    (fun b hb => by
      fin_cases b
      · rfl
      · exact absurd rfl hb)

/-- The hidden layer of an edge block. -/
def hid (ea : S256x4096.Idx → Ideal .f32) (w1b : S4096x192.Idx → Ideal .bf16) (b1 : S1x192.Idx → Ideal .f32) (e : Fin 256) (h : Fin 192) : EReal :=
  max ((∑ k : Fin 4096, ea (ix2 e k) * w1b (ix2 k h)) + b1 (ix2 0 h)) 0

/-- An edge's message without its bias: the hidden layer times the gathered node row, summed over each feature's group of columns. -/
theorem pay69_read (ea : Vec Ideal S256x4096 .f32) (w1b : Vec Ideal S4096x192 .bf16) (b1 : Vec Ideal S1x192 .f32)
    (src : Vec Ideal S256x1 .i32) (gn : Vec Ideal S256x6144 .bf16) (sel : Vec Ideal S6144x32 .bf16) (e : Fin 256) (o : Fin 32) :
    k0_pay69 ea w1b b1 src gn sel (ix2 e o)
      = ∑ q : Fin 6144, (hid ea w1b b1 e ⟨q.val % 192, Nat.mod_lt _ (by decide)⟩
          * ∑ n : Fin 256, (if src (ix2 e 0) = BitVec.ofNat 32 n.val then (1 : EReal) else 0) * gn (ix2 n q)) * sel (ix2 q o) := by
  unfold k0_pay69
  dsimp only
  have hc := fun w h => (funext (copies_read (α := Ideal .bf16) w h) : _ = fun j => _)
  rw [hc]
  clear hc
  pointwise [hid, k0_pay66]
  have hf : ∀ n : Fin 256, (FloatOps.sitofp (F := Ideal) FTy.f32 (BitVec.setWidth 32 (IntOp.cmpi CmpIPredicate.eq (src (ix2 e 0)) (BitVec.ofNat 32 n.val))) : EReal)
      = if src (ix2 e 0) = BitVec.ofNat 32 n.val then 1 else 0 := fun n => flag_of _ _ _ Iff.rfl
  simp only [hf]

/-- What a block of edges adds to a node: the messages with their bias, at the edges that end there. -/
theorem pay4_read (pf dt : FVec Ideal S256x256 .f32) (m : FVec Ideal S256x32 .f32) (xb : Vec Ideal S256x32 .f32) (n : Fin 256) (o : Fin 32) :
    k0_pay4 pf dt m xb (ix2 n o) = ∑ e : Fin 256, dt (ix2 n e) * (m (ix2 e o) + ∑ k : Fin 256, pf (ix2 e k) * xb (ix2 k o)) := by
  pointwise [k0_pay4]

/-- The first edge block stores that, -/
theorem pay5_read (pf dt : FVec Ideal S256x256 .f32) (m : FVec Ideal S256x32 .f32) (xb : Vec Ideal S256x32 .f32) (n : Fin 256) (o : Fin 32) :
    k0_pay5 pf dt m xb (ix2 n o) = k0_pay4 pf dt m xb (ix2 n o) := by
  unfold k0_pay5
  generalize k0_pay4 pf dt m xb = A
  pointwise

/-- a later one adds it. -/
theorem pay6_read (pf dt : FVec Ideal S256x256 .f32) (m : FVec Ideal S256x32 .f32) (xb : Vec Ideal S256x32 .f32) (a : Vec Ideal S256x32 .f32) (n : Fin 256) (o : Fin 32) :
    k0_pay6 pf dt m xb a (ix2 n o) = a (ix2 n o) + k0_pay4 pf dt m xb (ix2 n o) := by
  unfold k0_pay6
  generalize k0_pay4 pf dt m xb = A
  pointwise

end Cert.KernelIdeal.Read

end
-- ==== Proof.ReadHead.lean ====
/- The dense head read at an entry. -/
module

public import proofs.«01_k».proof.Proof.ReadNode

@[expose] public section

set_option maxRecDepth 16384

noncomputable section

namespace Cert.KernelIdeal.Read

open Cert.KernelIdeal Cert.KernelIdeal.Gen Cert.KernelIdeal.Body
open Idealize.ShloMosaic

/-- One of the thirty-two slices of the graph-by-node-by-feature table. -/
theorem piece8 {α : Type} (v : S8x32x32.Idx → α) (o : ℕ) (h : S8x32x32.Slices ![0, o, 0] S8x1x32)
    (hc : S8x1x32.ShapeCasts S8x32) (ho : o < 32) :
    shapeCast S8x32 (extractStridedSlice S8x1x32 ![0, o, 0] v h) hc = fun i => v (ix3 (i 0) ⟨o, ho⟩ (i 1)) := by
  funext i; idx_vars i; pointwise

/-- The slices side by side, read at a column. -/
theorem cat8_read {α : Type} (v : S8x32x32.Idx → α) (h) (j : S8x1024.Idx) :
    concatenate S8x1024 1 [⟨S8x32, shapeCast S8x32 (extractStridedSlice S8x1x32 ![0, 0, 0] v slices_S8x32x32_o0_0_0_S8x1x32) shapeCasts_S8x1x32_S8x32⟩, ⟨S8x32, shapeCast S8x32 (extractStridedSlice S8x1x32 ![0, 1, 0] v slices_S8x32x32_o0_1_0_S8x1x32) shapeCasts_S8x1x32_S8x32⟩, ⟨S8x32, shapeCast S8x32 (extractStridedSlice S8x1x32 ![0, 2, 0] v slices_S8x32x32_o0_2_0_S8x1x32) shapeCasts_S8x1x32_S8x32⟩, ⟨S8x32, shapeCast S8x32 (extractStridedSlice S8x1x32 ![0, 3, 0] v slices_S8x32x32_o0_3_0_S8x1x32) shapeCasts_S8x1x32_S8x32⟩, ⟨S8x32, shapeCast S8x32 (extractStridedSlice S8x1x32 ![0, 4, 0] v slices_S8x32x32_o0_4_0_S8x1x32) shapeCasts_S8x1x32_S8x32⟩, ⟨S8x32, shapeCast S8x32 (extractStridedSlice S8x1x32 ![0, 5, 0] v slices_S8x32x32_o0_5_0_S8x1x32) shapeCasts_S8x1x32_S8x32⟩, ⟨S8x32, shapeCast S8x32 (extractStridedSlice S8x1x32 ![0, 6, 0] v slices_S8x32x32_o0_6_0_S8x1x32) shapeCasts_S8x1x32_S8x32⟩, ⟨S8x32, shapeCast S8x32 (extractStridedSlice S8x1x32 ![0, 7, 0] v slices_S8x32x32_o0_7_0_S8x1x32) shapeCasts_S8x1x32_S8x32⟩, ⟨S8x32, shapeCast S8x32 (extractStridedSlice S8x1x32 ![0, 8, 0] v slices_S8x32x32_o0_8_0_S8x1x32) shapeCasts_S8x1x32_S8x32⟩, ⟨S8x32, shapeCast S8x32 (extractStridedSlice S8x1x32 ![0, 9, 0] v slices_S8x32x32_o0_9_0_S8x1x32) shapeCasts_S8x1x32_S8x32⟩, ⟨S8x32, shapeCast S8x32 (extractStridedSlice S8x1x32 ![0, 10, 0] v slices_S8x32x32_o0_10_0_S8x1x32) shapeCasts_S8x1x32_S8x32⟩, ⟨S8x32, shapeCast S8x32 (extractStridedSlice S8x1x32 ![0, 11, 0] v slices_S8x32x32_o0_11_0_S8x1x32) shapeCasts_S8x1x32_S8x32⟩, ⟨S8x32, shapeCast S8x32 (extractStridedSlice S8x1x32 ![0, 12, 0] v slices_S8x32x32_o0_12_0_S8x1x32) shapeCasts_S8x1x32_S8x32⟩, ⟨S8x32, shapeCast S8x32 (extractStridedSlice S8x1x32 ![0, 13, 0] v slices_S8x32x32_o0_13_0_S8x1x32) shapeCasts_S8x1x32_S8x32⟩, ⟨S8x32, shapeCast S8x32 (extractStridedSlice S8x1x32 ![0, 14, 0] v slices_S8x32x32_o0_14_0_S8x1x32) shapeCasts_S8x1x32_S8x32⟩, ⟨S8x32, shapeCast S8x32 (extractStridedSlice S8x1x32 ![0, 15, 0] v slices_S8x32x32_o0_15_0_S8x1x32) shapeCasts_S8x1x32_S8x32⟩, ⟨S8x32, shapeCast S8x32 (extractStridedSlice S8x1x32 ![0, 16, 0] v slices_S8x32x32_o0_16_0_S8x1x32) shapeCasts_S8x1x32_S8x32⟩, ⟨S8x32, shapeCast S8x32 (extractStridedSlice S8x1x32 ![0, 17, 0] v slices_S8x32x32_o0_17_0_S8x1x32) shapeCasts_S8x1x32_S8x32⟩, ⟨S8x32, shapeCast S8x32 (extractStridedSlice S8x1x32 ![0, 18, 0] v slices_S8x32x32_o0_18_0_S8x1x32) shapeCasts_S8x1x32_S8x32⟩, ⟨S8x32, shapeCast S8x32 (extractStridedSlice S8x1x32 ![0, 19, 0] v slices_S8x32x32_o0_19_0_S8x1x32) shapeCasts_S8x1x32_S8x32⟩, ⟨S8x32, shapeCast S8x32 (extractStridedSlice S8x1x32 ![0, 20, 0] v slices_S8x32x32_o0_20_0_S8x1x32) shapeCasts_S8x1x32_S8x32⟩, ⟨S8x32, shapeCast S8x32 (extractStridedSlice S8x1x32 ![0, 21, 0] v slices_S8x32x32_o0_21_0_S8x1x32) shapeCasts_S8x1x32_S8x32⟩, ⟨S8x32, shapeCast S8x32 (extractStridedSlice S8x1x32 ![0, 22, 0] v slices_S8x32x32_o0_22_0_S8x1x32) shapeCasts_S8x1x32_S8x32⟩, ⟨S8x32, shapeCast S8x32 (extractStridedSlice S8x1x32 ![0, 23, 0] v slices_S8x32x32_o0_23_0_S8x1x32) shapeCasts_S8x1x32_S8x32⟩, ⟨S8x32, shapeCast S8x32 (extractStridedSlice S8x1x32 ![0, 24, 0] v slices_S8x32x32_o0_24_0_S8x1x32) shapeCasts_S8x1x32_S8x32⟩, ⟨S8x32, shapeCast S8x32 (extractStridedSlice S8x1x32 ![0, 25, 0] v slices_S8x32x32_o0_25_0_S8x1x32) shapeCasts_S8x1x32_S8x32⟩, ⟨S8x32, shapeCast S8x32 (extractStridedSlice S8x1x32 ![0, 26, 0] v slices_S8x32x32_o0_26_0_S8x1x32) shapeCasts_S8x1x32_S8x32⟩, ⟨S8x32, shapeCast S8x32 (extractStridedSlice S8x1x32 ![0, 27, 0] v slices_S8x32x32_o0_27_0_S8x1x32) shapeCasts_S8x1x32_S8x32⟩, ⟨S8x32, shapeCast S8x32 (extractStridedSlice S8x1x32 ![0, 28, 0] v slices_S8x32x32_o0_28_0_S8x1x32) shapeCasts_S8x1x32_S8x32⟩, ⟨S8x32, shapeCast S8x32 (extractStridedSlice S8x1x32 ![0, 29, 0] v slices_S8x32x32_o0_29_0_S8x1x32) shapeCasts_S8x1x32_S8x32⟩, ⟨S8x32, shapeCast S8x32 (extractStridedSlice S8x1x32 ![0, 30, 0] v slices_S8x32x32_o0_30_0_S8x1x32) shapeCasts_S8x1x32_S8x32⟩, ⟨S8x32, shapeCast S8x32 (extractStridedSlice S8x1x32 ![0, 31, 0] v slices_S8x32x32_o0_31_0_S8x1x32) shapeCasts_S8x1x32_S8x32⟩] h j
      = v (ix3 (j 0) ⟨(j 1).val / 32, by have := (j 1).isLt; change (j 1).val < 1024 at this; omega⟩ ⟨(j 1).val % 32, Nat.mod_lt _ (by decide)⟩) := by
  have hj : (j 1).val < 1024 := (j 1).isLt
  rw [concat_congr S8x1024 1 _ [⟨S8x32, fun i => v (ix3 (i 0) ⟨0, by decide⟩ (i 1))⟩, ⟨S8x32, fun i => v (ix3 (i 0) ⟨1, by decide⟩ (i 1))⟩, ⟨S8x32, fun i => v (ix3 (i 0) ⟨2, by decide⟩ (i 1))⟩, ⟨S8x32, fun i => v (ix3 (i 0) ⟨3, by decide⟩ (i 1))⟩, ⟨S8x32, fun i => v (ix3 (i 0) ⟨4, by decide⟩ (i 1))⟩, ⟨S8x32, fun i => v (ix3 (i 0) ⟨5, by decide⟩ (i 1))⟩, ⟨S8x32, fun i => v (ix3 (i 0) ⟨6, by decide⟩ (i 1))⟩, ⟨S8x32, fun i => v (ix3 (i 0) ⟨7, by decide⟩ (i 1))⟩, ⟨S8x32, fun i => v (ix3 (i 0) ⟨8, by decide⟩ (i 1))⟩, ⟨S8x32, fun i => v (ix3 (i 0) ⟨9, by decide⟩ (i 1))⟩, ⟨S8x32, fun i => v (ix3 (i 0) ⟨10, by decide⟩ (i 1))⟩, ⟨S8x32, fun i => v (ix3 (i 0) ⟨11, by decide⟩ (i 1))⟩, ⟨S8x32, fun i => v (ix3 (i 0) ⟨12, by decide⟩ (i 1))⟩, ⟨S8x32, fun i => v (ix3 (i 0) ⟨13, by decide⟩ (i 1))⟩, ⟨S8x32, fun i => v (ix3 (i 0) ⟨14, by decide⟩ (i 1))⟩, ⟨S8x32, fun i => v (ix3 (i 0) ⟨15, by decide⟩ (i 1))⟩, ⟨S8x32, fun i => v (ix3 (i 0) ⟨16, by decide⟩ (i 1))⟩, ⟨S8x32, fun i => v (ix3 (i 0) ⟨17, by decide⟩ (i 1))⟩, ⟨S8x32, fun i => v (ix3 (i 0) ⟨18, by decide⟩ (i 1))⟩, ⟨S8x32, fun i => v (ix3 (i 0) ⟨19, by decide⟩ (i 1))⟩, ⟨S8x32, fun i => v (ix3 (i 0) ⟨20, by decide⟩ (i 1))⟩, ⟨S8x32, fun i => v (ix3 (i 0) ⟨21, by decide⟩ (i 1))⟩, ⟨S8x32, fun i => v (ix3 (i 0) ⟨22, by decide⟩ (i 1))⟩, ⟨S8x32, fun i => v (ix3 (i 0) ⟨23, by decide⟩ (i 1))⟩, ⟨S8x32, fun i => v (ix3 (i 0) ⟨24, by decide⟩ (i 1))⟩, ⟨S8x32, fun i => v (ix3 (i 0) ⟨25, by decide⟩ (i 1))⟩, ⟨S8x32, fun i => v (ix3 (i 0) ⟨26, by decide⟩ (i 1))⟩, ⟨S8x32, fun i => v (ix3 (i 0) ⟨27, by decide⟩ (i 1))⟩, ⟨S8x32, fun i => v (ix3 (i 0) ⟨28, by decide⟩ (i 1))⟩, ⟨S8x32, fun i => v (ix3 (i 0) ⟨29, by decide⟩ (i 1))⟩, ⟨S8x32, fun i => v (ix3 (i 0) ⟨30, by decide⟩ (i 1))⟩, ⟨S8x32, fun i => v (ix3 (i 0) ⟨31, by decide⟩ (i 1))⟩] h (by repeat' (first | exact rfl | refine cons_congr (piece8 v _ _ _ (by decide)) ?_))]
  exact concatenate_ofFn_apply (s₁ := S8x32) (t := S8x1024) 1 (fun n : Fin 32 => fun i => v (ix3 (i 0) n (i 1))) _ rfl 32 rfl j
    ⟨(j 1).val / 32, by omega⟩ rfl (ix2 (j 0) ⟨(j 1).val % 32, Nat.mod_lt _ (by decide)⟩) rfl
    (fun b hb => by
      fin_cases b
      · rfl
      · exact absurd rfl hb)

/-- One of the eight rows of the flattened table. -/
theorem piece1 {α : Type} (v : S8x1024.Idx → α) (o : ℕ) (h : S1x8x1024.Slices ![0, o, 0] S1x1x1024)
    (hc : S1x1x1024.ShapeCasts S1x1024) (hd) (ho : o < 8) :
    shapeCast S1x1024 (extractStridedSlice S1x1x1024 ![0, o, 0] (shapeCast S1x8x1024 v hd) h) hc = fun i => v (ix2 ⟨o, ho⟩ (i 1)) := by
  funext i; idx_vars i; pointwise

/-- The rows side by side, read at a column. -/
theorem cat1_read {α : Type} (v : S8x1024.Idx → α) (h) (j : S1x8192.Idx) :
    concatenate S1x8192 1 [⟨S1x1024, shapeCast S1x1024 (extractStridedSlice S1x1x1024 ![0, 0, 0] (shapeCast S1x8x1024 v shapeCasts_S8x1024_S1x8x1024) slices_S1x8x1024_o0_0_0_S1x1x1024) shapeCasts_S1x1x1024_S1x1024⟩, ⟨S1x1024, shapeCast S1x1024 (extractStridedSlice S1x1x1024 ![0, 1, 0] (shapeCast S1x8x1024 v shapeCasts_S8x1024_S1x8x1024) slices_S1x8x1024_o0_1_0_S1x1x1024) shapeCasts_S1x1x1024_S1x1024⟩, ⟨S1x1024, shapeCast S1x1024 (extractStridedSlice S1x1x1024 ![0, 2, 0] (shapeCast S1x8x1024 v shapeCasts_S8x1024_S1x8x1024) slices_S1x8x1024_o0_2_0_S1x1x1024) shapeCasts_S1x1x1024_S1x1024⟩, ⟨S1x1024, shapeCast S1x1024 (extractStridedSlice S1x1x1024 ![0, 3, 0] (shapeCast S1x8x1024 v shapeCasts_S8x1024_S1x8x1024) slices_S1x8x1024_o0_3_0_S1x1x1024) shapeCasts_S1x1x1024_S1x1024⟩, ⟨S1x1024, shapeCast S1x1024 (extractStridedSlice S1x1x1024 ![0, 4, 0] (shapeCast S1x8x1024 v shapeCasts_S8x1024_S1x8x1024) slices_S1x8x1024_o0_4_0_S1x1x1024) shapeCasts_S1x1x1024_S1x1024⟩, ⟨S1x1024, shapeCast S1x1024 (extractStridedSlice S1x1x1024 ![0, 5, 0] (shapeCast S1x8x1024 v shapeCasts_S8x1024_S1x8x1024) slices_S1x8x1024_o0_5_0_S1x1x1024) shapeCasts_S1x1x1024_S1x1024⟩, ⟨S1x1024, shapeCast S1x1024 (extractStridedSlice S1x1x1024 ![0, 6, 0] (shapeCast S1x8x1024 v shapeCasts_S8x1024_S1x8x1024) slices_S1x8x1024_o0_6_0_S1x1x1024) shapeCasts_S1x1x1024_S1x1024⟩, ⟨S1x1024, shapeCast S1x1024 (extractStridedSlice S1x1x1024 ![0, 7, 0] (shapeCast S1x8x1024 v shapeCasts_S8x1024_S1x8x1024) slices_S1x8x1024_o0_7_0_S1x1x1024) shapeCasts_S1x1x1024_S1x1024⟩] h j
      = v (ix2 ⟨(j 1).val / 1024, by have := (j 1).isLt; change (j 1).val < 8192 at this; omega⟩ ⟨(j 1).val % 1024, Nat.mod_lt _ (by decide)⟩) := by
  have hj : (j 1).val < 8192 := (j 1).isLt
  have hz : (j 0).val = 0 := by have := (j 0).isLt; change (j 0).val < 1 at this; omega
  rw [concat_congr S1x8192 1 _ [⟨S1x1024, fun i => v (ix2 ⟨0, by decide⟩ (i 1))⟩, ⟨S1x1024, fun i => v (ix2 ⟨1, by decide⟩ (i 1))⟩, ⟨S1x1024, fun i => v (ix2 ⟨2, by decide⟩ (i 1))⟩, ⟨S1x1024, fun i => v (ix2 ⟨3, by decide⟩ (i 1))⟩, ⟨S1x1024, fun i => v (ix2 ⟨4, by decide⟩ (i 1))⟩, ⟨S1x1024, fun i => v (ix2 ⟨5, by decide⟩ (i 1))⟩, ⟨S1x1024, fun i => v (ix2 ⟨6, by decide⟩ (i 1))⟩, ⟨S1x1024, fun i => v (ix2 ⟨7, by decide⟩ (i 1))⟩] h (by repeat' (first | exact rfl | refine cons_congr (piece1 v _ _ _ _ (by decide)) ?_))]
  exact concatenate_ofFn_apply (s₁ := S1x1024) (t := S1x8192) 1 (fun n : Fin 8 => fun i => v (ix2 n (i 1))) _ rfl 1024 rfl j
    ⟨(j 1).val / 1024, by omega⟩ rfl (ix2 (j 0) ⟨(j 1).val % 1024, Nat.mod_lt _ (by decide)⟩) rfl
    (fun b hb => by
      fin_cases b
      · rfl
      · exact absurd rfl hb)

/-- The network's last node table with its bias, cut off below zero. -/
def act (xr agg : S256x32.Idx → Ideal .f32) (b : S1x32.Idx → Ideal .f32) (n : Fin 256) (o : Fin 32) : EReal :=
  max (xr (ix2 n o) + agg (ix2 n o) + b (ix2 0 o)) 0

/-- The activated node table, by graph, node and feature. -/
theorem pay42_read (xr agg : Vec Ideal S256x32 .f32) (b : Vec Ideal S1x32 .f32) (i : Fin 8) (n o : Fin 32) :
    k0_pay42 xr agg b (ix3 i n o) = act xr agg b ⟨32 * i.val + n.val, by omega⟩ o := by
  have e : (⟨32 * i.val + n.val, by omega⟩ : Fin 256) = ⟨i.val * 32 + n.val, by omega⟩ := Fin.ext (by simp only; omega)
  rw [e]
  pointwise [k0_pay42, act]

/-- The stored result: the three dense layers over the flattened node table. -/
theorem headOut_read (xr agg : Vec Ideal S256x32 .f32) (x9 : Vec Ideal S1x32 .f32) (x10 : Vec Ideal S8192x96 .f32)
    (x11 : Vec Ideal S1x96 .f32) (x12 : Vec Ideal S96x48 .f32) (x13 : Vec Ideal S1x48 .f32) (x14 : Vec Ideal S48x65280 .f32)
    (x15 : Vec Ideal S1x65280 .f32) (q : Fin 65280) :
    k0_pay7 (k0_pay65 (k0_pay42 xr agg x9) (k0_pay43 xr agg x9) (k0_pay44 xr agg x9) (k0_pay45 xr agg x9) (k0_pay46 xr agg x9) (k0_pay47 xr agg x9) (k0_pay48 xr agg x9) (k0_pay49 xr agg x9) (k0_pay50 xr agg x9) (k0_pay51 xr agg x9) (k0_pay52 xr agg x9) (k0_pay53 xr agg x9) (k0_pay54 xr agg x9) (k0_pay55 xr agg x9) (k0_pay56 xr agg x9) (k0_pay57 xr agg x9) (k0_pay58 xr agg x9) (k0_pay59 xr agg x9) (k0_pay60 xr agg x9) (k0_pay61 xr agg x9) (k0_pay62 xr agg x9) (k0_pay63 xr agg x9) (k0_pay64 xr agg x9) x10 x11 x12) x13 x14 x15 (ix2 0 q)
      = max ((∑ p : Fin 48, max ((∑ r : Fin 96, max ((∑ j : Fin 8192, act xr agg x9 ⟨j.val / 32, by omega⟩ ⟨j.val % 32, Nat.mod_lt _ (by decide)⟩ * x10 (ix2 j r)) + x11 (ix2 0 r)) 0
          * x12 (ix2 r p)) + x13 (ix2 0 p)) 0 * x14 (ix2 p q)) + x15 (ix2 0 q)) 0 := by
  have hA : ∀ (i : Fin 8) (n o : Fin 32), k0_pay42 xr agg x9 (ix3 i n o) = act xr agg x9 ⟨32 * i.val + n.val, by omega⟩ o :=
    fun i n o => pay42_read xr agg x9 i n o
  unfold k0_pay65 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64
  generalize k0_pay42 xr agg x9 = A at hA
  dsimp only
  have h8 := fun h => (funext (cat8_read (α := Ideal .f32) A h) : _ = fun j => _)
  rw [h8]
  have h1 := fun w h => (funext (cat1_read (α := Ideal .f32) w h) : _ = fun j => _)
  rw [h1]
  clear h8 h1
  pointwise [k0_pay7]
  have hj : ∀ x : Fin 8192, A (ix3 ⟨x.val / 1024, by omega⟩ ⟨x.val % 1024 / 32, by omega⟩ ⟨x.val % 1024 % 32, by omega⟩)
      = act xr agg x9 ⟨x.val / 32, by omega⟩ ⟨x.val % 32, by omega⟩ := fun x => by
    rw [hA]
    congr 1
    · exact Fin.ext (by simp only; omega)
    · exact Fin.ext (by simp only; omega)
  simp only [hj]

end Cert.KernelIdeal.Read

end
-- ==== Proof.ReadBlk.lean ====
/- What the windows' blocks and the host's reshaped arrays hold, read in the arguments. -/
module

public import proofs.«01_k».proof.Proof.FrameKI
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Read

open Cert.KernelIdeal Cert.KernelIdeal.Gen Cert.KernelIdeal.Body
open Idealize.ShloMosaic

variable (m : (ℓ : Loc nD τ sig) → Buf (Elt Ideal) ℓ)

/-- Where the blocks of the four clipped windows lie at a node point. -/
theorem index0 : ∀ t : Fin cfg0.N, t.val < 4 → (win0_0.index t 0 = 0 ∧ win0_0.index t 1 = t.val) ∧ (win0_1.index t 0 = 0 ∧ win0_1.index t 1 = t.val)
    ∧ (win0_3.index t 0 = t.val ∧ win0_3.index t 1 = 0) ∧ (win0_4.index t 0 = t.val ∧ win0_4.index t 1 = 0) :=
  (by decide +kernel : ∀ t : Fin grid0.N, t.val < 4 → (win0_0.index t 0 = 0 ∧ win0_0.index t 1 = t.val) ∧ (win0_1.index t 0 = 0 ∧ win0_1.index t 1 = t.val)
    ∧ (win0_3.index t 0 = t.val ∧ win0_3.index t 1 = 0) ∧ (win0_4.index t 0 = t.val ∧ win0_4.index t 1 = 0))

/-- How much of each clipped block lies inside its array. -/
theorem size0 : ∀ t : Fin cfg0.N, t.val < 4 → (win0_0.xsize (grid0.coords t) 0 = 256 ∧ win0_0.xsize (grid0.coords t) 1 = min 128 (510 - 128 * t.val))
    ∧ (win0_1.xsize (grid0.coords t) 0 = 192 ∧ win0_1.xsize (grid0.coords t) 1 = min 4096 (16320 - 4096 * t.val))
    ∧ (win0_3.xsize (grid0.coords t) 0 = min 128 (510 - 128 * t.val) ∧ win0_3.xsize (grid0.coords t) 1 = 32)
    ∧ (win0_4.xsize (grid0.coords t) 0 = min 128 (510 - 128 * t.val) ∧ win0_4.xsize (grid0.coords t) 1 = 32) :=
  (by decide +kernel : ∀ t : Fin grid0.N, t.val < 4 → (win0_0.xsize (grid0.coords t) 0 = 256 ∧ win0_0.xsize (grid0.coords t) 1 = min 128 (510 - 128 * t.val))
    ∧ (win0_1.xsize (grid0.coords t) 0 = 192 ∧ win0_1.xsize (grid0.coords t) 1 = min 4096 (16320 - 4096 * t.val))
    ∧ (win0_3.xsize (grid0.coords t) 0 = min 128 (510 - 128 * t.val) ∧ win0_3.xsize (grid0.coords t) 1 = 32)
    ∧ (win0_4.xsize (grid0.coords t) 0 = min 128 (510 - 128 * t.val) ∧ win0_4.xsize (grid0.coords t) 1 = 32))

/-- Where the edge blocks lie at an edge point. -/
theorem index6 : ∀ t : Fin cfg0.N, 4 ≤ t.val → (win0_6.index t 0 = t.val - 4 ∧ win0_6.index t 1 = 0) ∧ (win0_7.index t 0 = t.val - 4 ∧ win0_7.index t 1 = 0)
    ∧ (win0_8.index t 0 = t.val - 4 ∧ win0_8.index t 1 = 0 ∧ win0_8.index t 2 = 0) :=
  (by decide +kernel : ∀ t : Fin grid0.N, 4 ≤ t.val → (win0_6.index t 0 = t.val - 4 ∧ win0_6.index t 1 = 0) ∧ (win0_7.index t 0 = t.val - 4 ∧ win0_7.index t 1 = 0)
    ∧ (win0_8.index t 0 = t.val - 4 ∧ win0_8.index t 1 = 0 ∧ win0_8.index t 2 = 0))

/-- The node features of a node point, inside the array, whatever the rest of the buffer holds. -/
theorem fil0_read (c : Dev nD) (t : Fin cfg0.N) (d : Vec Ideal S256x128 .f32) (ht : t.val < 4) (i : Fin 256) (j : Fin 128) (h : 128 * t.val + j.val < 510) :
    fil0 m c t d (ix2 i j) = V m c main_arg0 (ix2 i ⟨128 * t.val + j.val, h⟩) := by
  have hm : (cfg0.win 0).moved (grid0.coords t) (ix2 i j) = true := ((cfg0.win 0).moved_iff _ _).2 fun a => by
    match a with
    | ⟨0, _⟩ => exact lt_of_lt_of_eq (show i.val < _ by have := t.isLt; omega) ((size0 t ht).1).1.symm
    | ⟨1, _⟩ => exact lt_of_lt_of_eq (show j.val < _ by have := t.isLt; omega) ((size0 t ht).1).2.symm
  unfold fil0 Pipeline.Window.fill
  rw [dif_pos hm]
  unfold iblk
  refine congrArg (V m c main_arg0) (funext fun a => Fin.ext ?_)
  match a with
  | ⟨0, _⟩ => blk_simp; rw [((index0 t ht).1).1]; simp
  | ⟨1, _⟩ => blk_simp; rw [((index0 t ht).1).2]; show t.val * 128 + j.val = 128 * t.val + j.val; omega

/-- The second weight of a node point, inside the array. -/
theorem fil1_read (c : Dev nD) (t : Fin cfg0.N) (d : Vec Ideal S192x4096 .f32) (ht : t.val < 4) (i : Fin 192) (j : Fin 4096) (h : 4096 * t.val + j.val < 16320) :
    fil1 m c t d (ix2 i j) = V m c main_arg6 (ix2 i ⟨4096 * t.val + j.val, h⟩) := by
  have hm : (cfg0.win 1).moved (grid0.coords t) (ix2 i j) = true := ((cfg0.win 1).moved_iff _ _).2 fun a => by
    match a with
    | ⟨0, _⟩ => exact lt_of_lt_of_eq (show i.val < _ by have := t.isLt; omega) ((size0 t ht).2.1).1.symm
    | ⟨1, _⟩ => exact lt_of_lt_of_eq (show j.val < _ by have := t.isLt; omega) ((size0 t ht).2.1).2.symm
  unfold fil1 Pipeline.Window.fill
  rw [dif_pos hm]
  unfold iblk
  refine congrArg (V m c main_arg6) (funext fun a => Fin.ext ?_)
  match a with
  | ⟨0, _⟩ => blk_simp; rw [((index0 t ht).2.1).1]; simp
  | ⟨1, _⟩ => blk_simp; rw [((index0 t ht).2.1).2]; show t.val * 4096 + j.val = 4096 * t.val + j.val; omega

/-- The second bias, as a matrix, of a node point, inside the array. -/
theorem fil3_read (c : Dev nD) (t : Fin cfg0.N) (d : Vec Ideal S128x32 .f32) (ht : t.val < 4) (i : Fin 128) (j : Fin 32) (h : 128 * t.val + i.val < 510) :
    fil3 m c t d (ix2 i j) = V m c main_v0 (ix2 ⟨128 * t.val + i.val, h⟩ j) := by
  have hm : (cfg0.win 3).moved (grid0.coords t) (ix2 i j) = true := ((cfg0.win 3).moved_iff _ _).2 fun a => by
    match a with
    | ⟨0, _⟩ => exact lt_of_lt_of_eq (show i.val < _ by have := t.isLt; omega) ((size0 t ht).2.2.1).1.symm
    | ⟨1, _⟩ => exact lt_of_lt_of_eq (show j.val < _ by have := t.isLt; omega) ((size0 t ht).2.2.1).2.symm
  unfold fil3 Pipeline.Window.fill
  rw [dif_pos hm]
  unfold iblk
  refine congrArg (V m c main_v0) (funext fun a => Fin.ext ?_)
  match a with
  | ⟨0, _⟩ => blk_simp; rw [((index0 t ht).2.2.1).1]; show t.val * 128 + i.val = 128 * t.val + i.val; omega
  | ⟨1, _⟩ => blk_simp; rw [((index0 t ht).2.2.1).2]; simp

/-- The root weight of a node point, inside the array. -/
theorem fil4_read (c : Dev nD) (t : Fin cfg0.N) (d : Vec Ideal S128x32 .f32) (ht : t.val < 4) (i : Fin 128) (j : Fin 32) (h : 128 * t.val + i.val < 510) :
    fil4 m c t d (ix2 i j) = V m c main_arg8 (ix2 ⟨128 * t.val + i.val, h⟩ j) := by
  have hm : (cfg0.win 4).moved (grid0.coords t) (ix2 i j) = true := ((cfg0.win 4).moved_iff _ _).2 fun a => by
    match a with
    | ⟨0, _⟩ => exact lt_of_lt_of_eq (show i.val < _ by have := t.isLt; omega) ((size0 t ht).2.2.2).1.symm
    | ⟨1, _⟩ => exact lt_of_lt_of_eq (show j.val < _ by have := t.isLt; omega) ((size0 t ht).2.2.2).2.symm
  unfold fil4 Pipeline.Window.fill
  rw [dif_pos hm]
  unfold iblk
  refine congrArg (V m c main_arg8) (funext fun a => Fin.ext ?_)
  match a with
  | ⟨0, _⟩ => blk_simp; rw [((index0 t ht).2.2.2).1]; show t.val * 128 + i.val = 128 * t.val + i.val; omega
  | ⟨1, _⟩ => blk_simp; rw [((index0 t ht).2.2.2).2]; simp

/-- The edge features of an edge point. -/
theorem ea_blk (c : Dev nD) (t : Fin cfg0.N) (ht : 4 ≤ t.val) (i : Fin 256) (j : Fin 4096) :
    (iblk m c 6 t : Vec Ideal S256x4096 .f32) (ix2 i j) = V m c main_arg3 (ix2 ⟨256 * (t.val - 4) + i.val, by have : t.val < 20 := t.isLt; omega⟩ j) := by
  unfold iblk
  refine congrArg (V m c main_arg3) (funext fun a => Fin.ext ?_)
  match a with
  | ⟨0, _⟩ => blk_simp; rw [((index6 t ht).1).1]; show (t.val - 4) * 256 + i.val = 256 * (t.val - 4) + i.val; omega
  | ⟨1, _⟩ => blk_simp; rw [((index6 t ht).1).2]; try simp

/-- The source words of an edge point. -/
theorem src_blk (c : Dev nD) (t : Fin cfg0.N) (ht : 4 ≤ t.val) (i : Fin 256) :
    (iblk m c 7 t : Vec Ideal S256x1 .i32) (ix2 i 0) = V m c main_v3 (ix2 ⟨256 * (t.val - 4) + i.val, by have : t.val < 20 := t.isLt; omega⟩ 0) := by
  unfold iblk
  refine congrArg (V m c main_v3) (funext fun a => Fin.ext ?_)
  match a with
  | ⟨0, _⟩ => blk_simp; rw [((index6 t ht).2.1).1]; show (t.val - 4) * 256 + i.val = 256 * (t.val - 4) + i.val; omega
  | ⟨1, _⟩ => blk_simp; rw [((index6 t ht).2.1).2]; try simp

/-- The destination words of an edge point. -/
theorem dst_blk (c : Dev nD) (t : Fin cfg0.N) (ht : 4 ≤ t.val) (i : Fin 256) :
    (iblk m c 8 t : Vec Ideal S1x1x256 .i32) (ix3 0 0 i) = V m c main_v6 (ix3 ⟨t.val - 4, by have : t.val < 20 := t.isLt; omega⟩ 0 i) := by
  unfold iblk
  refine congrArg (V m c main_v6) (funext fun a => Fin.ext ?_)
  match a with
  | ⟨0, _⟩ => blk_simp; rw [((index6 t ht).2.2).1]; try simp
  | ⟨1, _⟩ => blk_simp; rw [((index6 t ht).2.2).2.1]; try simp
  | ⟨2, _⟩ => blk_simp; rw [((index6 t ht).2.2).2.2]; try simp

theorem index2 : ∀ t : Fin cfg0.N, win0_2.index t 0 = 0 ∧ win0_2.index t 1 = 0 :=
  (by decide +kernel : ∀ t : Fin grid0.N, win0_2.index t 0 = 0 ∧ win0_2.index t 1 = 0)

/-- A window of one block reads its array whole; so do the windows below. -/
theorem w1_blk (c : Dev nD) (t : Fin cfg0.N) (i : Fin 4096) (j : Fin 192) :
    (iblk m c 2 t : Vec Ideal S4096x192 .f32) (ix2 i j) = V m c main_arg4 (ix2 i j) := by
  unfold iblk
  refine congrArg (V m c main_arg4) (funext fun a => Fin.ext ?_)
  match a with
  | ⟨0, _⟩ => blk_simp; rw [(index2 t).1]; try simp
  | ⟨1, _⟩ => blk_simp; rw [(index2 t).2]; try simp

theorem index5 : ∀ t : Fin cfg0.N, win0_5.index t 0 = 0 ∧ win0_5.index t 1 = 0 :=
  (by decide +kernel : ∀ t : Fin grid0.N, win0_5.index t 0 = 0 ∧ win0_5.index t 1 = 0)

theorem b1_blk (c : Dev nD) (t : Fin cfg0.N) (i : Fin 1) (j : Fin 192) :
    (iblk m c 5 t : Vec Ideal S1x192 .f32) (ix2 i j) = V m c main_v7 (ix2 i j) := by
  unfold iblk
  refine congrArg (V m c main_v7) (funext fun a => Fin.ext ?_)
  match a with
  | ⟨0, _⟩ => blk_simp; rw [(index5 t).1]; try simp
  | ⟨1, _⟩ => blk_simp; rw [(index5 t).2]; try simp

theorem index9 : ∀ t : Fin cfg0.N, win0_9.index t 0 = 0 ∧ win0_9.index t 1 = 0 :=
  (by decide +kernel : ∀ t : Fin grid0.N, win0_9.index t 0 = 0 ∧ win0_9.index t 1 = 0)

theorem bc_blk (c : Dev nD) (t : Fin cfg0.N) (i : Fin 1) (j : Fin 32) :
    (iblk m c 9 t : Vec Ideal S1x32 .f32) (ix2 i j) = V m c main_v8 (ix2 i j) := by
  unfold iblk
  refine congrArg (V m c main_v8) (funext fun a => Fin.ext ?_)
  match a with
  | ⟨0, _⟩ => blk_simp; rw [(index9 t).1]; try simp
  | ⟨1, _⟩ => blk_simp; rw [(index9 t).2]; try simp

theorem index10 : ∀ t : Fin cfg0.N, win0_10.index t 0 = 0 ∧ win0_10.index t 1 = 0 :=
  (by decide +kernel : ∀ t : Fin grid0.N, win0_10.index t 0 = 0 ∧ win0_10.index t 1 = 0)

theorem wl1_blk (c : Dev nD) (t : Fin cfg0.N) (i : Fin 8192) (j : Fin 96) :
    (iblk m c 10 t : Vec Ideal S8192x96 .f32) (ix2 i j) = V m c main_arg10 (ix2 i j) := by
  unfold iblk
  refine congrArg (V m c main_arg10) (funext fun a => Fin.ext ?_)
  match a with
  | ⟨0, _⟩ => blk_simp; rw [(index10 t).1]; try simp
  | ⟨1, _⟩ => blk_simp; rw [(index10 t).2]; try simp

theorem index11 : ∀ t : Fin cfg0.N, win0_11.index t 0 = 0 ∧ win0_11.index t 1 = 0 :=
  (by decide +kernel : ∀ t : Fin grid0.N, win0_11.index t 0 = 0 ∧ win0_11.index t 1 = 0)

theorem bl1_blk (c : Dev nD) (t : Fin cfg0.N) (i : Fin 1) (j : Fin 96) :
    (iblk m c 11 t : Vec Ideal S1x96 .f32) (ix2 i j) = V m c main_v9 (ix2 i j) := by
  unfold iblk
  refine congrArg (V m c main_v9) (funext fun a => Fin.ext ?_)
  match a with
  | ⟨0, _⟩ => blk_simp; rw [(index11 t).1]; try simp
  | ⟨1, _⟩ => blk_simp; rw [(index11 t).2]; try simp

theorem index12 : ∀ t : Fin cfg0.N, win0_12.index t 0 = 0 ∧ win0_12.index t 1 = 0 :=
  (by decide +kernel : ∀ t : Fin grid0.N, win0_12.index t 0 = 0 ∧ win0_12.index t 1 = 0)

theorem wl2_blk (c : Dev nD) (t : Fin cfg0.N) (i : Fin 96) (j : Fin 48) :
    (iblk m c 12 t : Vec Ideal S96x48 .f32) (ix2 i j) = V m c main_arg12 (ix2 i j) := by
  unfold iblk
  refine congrArg (V m c main_arg12) (funext fun a => Fin.ext ?_)
  match a with
  | ⟨0, _⟩ => blk_simp; rw [(index12 t).1]; try simp
  | ⟨1, _⟩ => blk_simp; rw [(index12 t).2]; try simp

theorem index13 : ∀ t : Fin cfg0.N, win0_13.index t 0 = 0 ∧ win0_13.index t 1 = 0 :=
  (by decide +kernel : ∀ t : Fin grid0.N, win0_13.index t 0 = 0 ∧ win0_13.index t 1 = 0)

theorem bl2_blk (c : Dev nD) (t : Fin cfg0.N) (i : Fin 1) (j : Fin 48) :
    (iblk m c 13 t : Vec Ideal S1x48 .f32) (ix2 i j) = V m c main_v10 (ix2 i j) := by
  unfold iblk
  refine congrArg (V m c main_v10) (funext fun a => Fin.ext ?_)
  match a with
  | ⟨0, _⟩ => blk_simp; rw [(index13 t).1]; try simp
  | ⟨1, _⟩ => blk_simp; rw [(index13 t).2]; try simp

theorem index14 : ∀ t : Fin cfg0.N, win0_14.index t 0 = 0 ∧ win0_14.index t 1 = 0 :=
  (by decide +kernel : ∀ t : Fin grid0.N, win0_14.index t 0 = 0 ∧ win0_14.index t 1 = 0)

theorem wl3_blk (c : Dev nD) (t : Fin cfg0.N) (i : Fin 48) (j : Fin 65280) :
    (iblk m c 14 t : Vec Ideal S48x65280 .f32) (ix2 i j) = V m c main_arg14 (ix2 i j) := by
  unfold iblk
  refine congrArg (V m c main_arg14) (funext fun a => Fin.ext ?_)
  match a with
  | ⟨0, _⟩ => blk_simp; rw [(index14 t).1]; try simp
  | ⟨1, _⟩ => blk_simp; rw [(index14 t).2]; try simp

theorem index15 : ∀ t : Fin cfg0.N, win0_15.index t 0 = 0 ∧ win0_15.index t 1 = 0 :=
  (by decide +kernel : ∀ t : Fin grid0.N, win0_15.index t 0 = 0 ∧ win0_15.index t 1 = 0)

theorem bl3_blk (c : Dev nD) (t : Fin cfg0.N) (i : Fin 1) (j : Fin 65280) :
    (iblk m c 15 t : Vec Ideal S1x65280 .f32) (ix2 i j) = V m c main_v11 (ix2 i j) := by
  unfold iblk
  refine congrArg (V m c main_v11) (funext fun a => Fin.ext ?_)
  match a with
  | ⟨0, _⟩ => blk_simp; rw [(index15 t).1]; try simp
  | ⟨1, _⟩ => blk_simp; rw [(index15 t).2]; try simp

/-- The host's reshapes, read in the arguments: the first bias as a row, -/
theorem v7_read (c : Dev nD) (j : Fin 192) : (V m c main_v7 : Vec Ideal S1x192 .f32) (ix2 0 j) = m ((c.tc : Thread nD τ).loc main_arg5) (ix1 j) := by
  entry_read
  pointwise

theorem v8_read (c : Dev nD) (j : Fin 32) : (V m c main_v8 : Vec Ideal S1x32 .f32) (ix2 0 j) = m ((c.tc : Thread nD τ).loc main_arg9) (ix1 j) := by
  entry_read
  pointwise

theorem v9_read (c : Dev nD) (j : Fin 96) : (V m c main_v9 : Vec Ideal S1x96 .f32) (ix2 0 j) = m ((c.tc : Thread nD τ).loc main_arg11) (ix1 j) := by
  entry_read
  pointwise

theorem v10_read (c : Dev nD) (j : Fin 48) : (V m c main_v10 : Vec Ideal S1x48 .f32) (ix2 0 j) = m ((c.tc : Thread nD τ).loc main_arg13) (ix1 j) := by
  entry_read
  pointwise

theorem v11_read (c : Dev nD) (j : Fin 65280) : (V m c main_v11 : Vec Ideal S1x65280 .f32) (ix2 0 j) = m ((c.tc : Thread nD τ).loc main_arg15) (ix1 j) := by
  entry_read
  pointwise

/-- the second bias as a matrix, -/
theorem v0_read (c : Dev nD) (k : Fin 510) (o : Fin 32) : (V m c main_v0 : Vec Ideal S510x32 .f32) (ix2 k o)
    = m ((c.tc : Thread nD τ).loc main_arg7) (ix1 ⟨32 * k.val + o.val, by omega⟩) := by
  entry_read
  have e : (⟨32 * k.val + o.val, by omega⟩ : Fin 16320) = ⟨k.val * 32 + o.val, by omega⟩ := Fin.ext (by simp only; omega)
  rw [e]
  pointwise

/-- the source words as a column, -/
theorem v3_read (c : Dev nD) (e : Fin 4096) : (V m c main_v3 : Vec Ideal S4096x1 .i32) (ix2 e 0)
    = m ((c.tc : Thread nD τ).loc main_arg1) (ix2 0 e) := by
  entry_read
  pointwise

/-- the destination words in blocks of 256. -/
theorem v6_read (c : Dev nD) (b : Fin 16) (i : Fin 256) : (V m c main_v6 : Vec Ideal S16x1x256 .i32) (ix3 b 0 i)
    = m ((c.tc : Thread nD τ).loc main_arg1) (ix2 1 ⟨256 * b.val + i.val, by omega⟩) := by
  entry_read
  have e : (⟨256 * b.val + i.val, by omega⟩ : Fin 4096) = ⟨b.val * 256 + i.val, by omega⟩ := Fin.ext (by simp only; omega)
  rw [e]
  pointwise

end Cert.KernelIdeal.Read

end
-- ==== Proof.Spec.lean ====
/- The mathematics: the convolution and the head over plain tables, the two forms of a message, and sums in pieces. -/
module

public import Idealize.ShloMosaic.Lib.Pointwise

@[expose] public section

set_option maxRecDepth 16384

noncomputable section

namespace Cert.Spec

/-- The sixteen arguments as plain tables of extended reals and index words. -/
structure Data where
  X : Fin 256 → Fin 510 → EReal
  E : Fin 4096 → Fin 4096 → EReal
  W1 : Fin 4096 → Fin 192 → EReal
  b1 : Fin 192 → EReal
  W2 : Fin 192 → Fin 16320 → EReal
  b2 : Fin 16320 → EReal
  Wr : Fin 510 → Fin 32 → EReal
  bc : Fin 32 → EReal
  L1 : Fin 8192 → Fin 96 → EReal
  c1 : Fin 96 → EReal
  L2 : Fin 96 → Fin 48 → EReal
  c2 : Fin 48 → EReal
  L3 : Fin 48 → Fin 65280 → EReal
  c3 : Fin 65280 → EReal
  src : Fin 4096 → BitVec 32
  dst : Fin 4096 → BitVec 32

namespace Data

variable (D : Data)

/-- Where the weight of input feature `k` and output feature `o` lies in an edge's flat weight. -/
def col (k : Fin 510) (o : Fin 32) : Fin 16320 := ⟨32 * k.val + o.val, by omega⟩

/-- The hidden layer of the edge network. -/
def hidden (e : Fin 4096) (h : Fin 192) : EReal := max ((∑ k, D.E e k * D.W1 k h) + D.b1 h) 0

/-- The node an edge starts from. -/
def row (e : Fin 4096) : Fin 256 := ⟨(D.src e).toNat % 256, Nat.mod_lt _ (by decide)⟩

/-- An edge's message as the reference computes it: the source row times the edge's own weight matrix. -/
def msgR (e : Fin 4096) (o : Fin 32) : EReal :=
  ∑ k, D.X (D.row e) k * ((∑ h, D.hidden e h * D.W2 h (col k o)) + D.b2 (col k o))

/-- The rows of the node table after the edge network's second weight. -/
def node (n : Fin 256) (h : Fin 192) (o : Fin 32) : EReal := ∑ k, D.X n k * D.W2 h (col k o)

/-- The rows of the node table after the edge network's second bias. -/
def nodeB (n : Fin 256) (o : Fin 32) : EReal := ∑ k, D.X n k * D.b2 (col k o)

/-- An edge's message as the kernel computes it: its hidden layer times its source's transformed row. -/
def msgK (e : Fin 4096) (o : Fin 32) : EReal :=
  (∑ h, D.hidden e h * D.node (D.row e) h o) + D.nodeB (D.row e) o

/-- What edge `e` adds to node `n`. -/
def share (msg : Fin 4096 → Fin 32 → EReal) (n : Fin 256) (o : Fin 32) (e : Fin 4096) : EReal :=
  if D.dst e = BitVec.ofNat 32 n.val then msg e o else 0

/-- The layer's own term of a node. -/
def root (n : Fin 256) (o : Fin 32) : EReal := ∑ k, D.X n k * D.Wr k o

/-- The convolution's output, for either form of the message. -/
def conv (msg : Fin 4096 → Fin 32 → EReal) (n : Fin 256) (o : Fin 32) : EReal :=
  max (D.root n o + (∑ e, D.share msg n o e) + D.bc o) 0

/-- The three dense layers over the flattened node table. -/
def head (C : Fin 256 → Fin 32 → EReal) (q : Fin 65280) : EReal :=
  max ((∑ p, max ((∑ r, max ((∑ j : Fin 8192, C ⟨j.val / 32, by omega⟩ ⟨j.val % 32, Nat.mod_lt _ (by decide)⟩ * D.L1 j r) + D.c1 r) 0
    * D.L2 r p) + D.c2 p) 0 * D.L3 p q) + D.c3 q) 0

end Data

/-! ## Sums in pieces -/

/-- A table's column continued by zeros. -/
def ext {N : ℕ} (f : Fin N → EReal) (k : ℕ) : EReal := if h : k < N then f ⟨k, h⟩ else 0

theorem ext_lt {N : ℕ} (f : Fin N → EReal) {k : ℕ} (h : k < N) : ext f k = f ⟨k, h⟩ := dif_pos h

theorem ext_ge {N : ℕ} (f : Fin N → EReal) {k : ℕ} (h : ¬ k < N) : ext f k = 0 := dif_neg h

/-- Over the table itself the continued column sums to the column, -/
theorem sum_ext {N : ℕ} (f : Fin N → EReal) : ∑ k ∈ Finset.range N, ext f k = ∑ k, f k := by
  rw [Finset.sum_range]
  exact Finset.sum_congr rfl fun k _ => ext_lt f k.isLt

/-- and so it does over the four blocks of 128 that overhang it by two. -/
theorem sum_ext_512 (f : Fin 510 → EReal) : ∑ k ∈ Finset.range (128 * 4), ext f k = ∑ k, f k := by
  rw [show 128 * 4 = 510 + 1 + 1 from rfl, Finset.sum_range_succ, Finset.sum_range_succ, sum_ext,
    ext_ge f (by decide), ext_ge f (by decide), add_zero, add_zero]

/-- One more piece of `K` summands. -/
theorem sum_piece (f : ℕ → EReal) (K t : ℕ) :
    ∑ k ∈ Finset.range (K * (t + 1)), f k = (∑ k ∈ Finset.range (K * t), f k) + ∑ k : Fin K, f (K * t + k.val) := by
  rw [Nat.mul_succ, Finset.sum_range_add, Finset.sum_range (fun k => f (K * t + k))]

/-- A one-hot row times a column is the column's entry. -/
theorem sum_hot (w : BitVec 32) (s : Fin 256) (hs : w = BitVec.ofNat 32 s.val) (f : Fin 256 → EReal) :
    ∑ n : Fin 256, (if w = BitVec.ofNat 32 n.val then (1 : EReal) else 0) * f n = f s := by
  rw [Finset.sum_eq_single s]
  · rw [if_pos hs, one_mul]
  · intro n _ hn
    rw [if_neg, zero_mul]
    intro h
    apply hn
    have := congrArg BitVec.toNat (h.symm.trans hs)
    rw [BitVec.toNat_ofNat, BitVec.toNat_ofNat] at this
    exact Fin.ext (by omega)
  · intro h; exact absurd (Finset.mem_univ _) h

/-- The selection matrix picks one group of 192. -/
theorem sum_sel (f : Fin 6144 → EReal) (o : Fin 32) :
    ∑ q : Fin 6144, f q * (if q.val / 192 = o.val then (1 : EReal) else 0)
      = ∑ h : Fin 192, f ⟨192 * o.val + h.val, by omega⟩ := by
  rw [← (finProdFinEquiv (m := 32) (n := 192)).sum_comp (fun q : Fin 6144 => f q * (if q.val / 192 = o.val then (1 : EReal) else 0)),
    Fintype.sum_prod_type, Finset.sum_eq_single o]
  · refine Finset.sum_congr rfl fun h _ => ?_
    have hv : (finProdFinEquiv (o, h) : Fin (32 * 192)).val = h.val + 192 * o.val := rfl
    rw [if_pos (by rw [hv]; omega), mul_one]
    exact congrArg f (Fin.ext (by rw [hv]; simp only; omega))
  · intro b _ hb
    refine Finset.sum_eq_zero fun h _ => ?_
    have hv : (finProdFinEquiv (b, h) : Fin (32 * 192)).val = h.val + 192 * b.val := rfl
    rw [if_neg (by rw [hv]; intro e; apply hb; exact Fin.ext (by omega)), mul_zero]
  · intro h; exact absurd (Finset.mem_univ _) h

/-! ## The two forms of the message -/

theorem real_mul_add (c a : ℝ) (b : EReal) : (c : EReal) * (a + b) = c * a + c * b := by
  induction b with
  | bot =>
    rw [EReal.add_bot]
    rcases lt_trichotomy c 0 with h | h | h
    · rw [EReal.coe_mul_bot_of_neg h, ← EReal.coe_mul, EReal.coe_add_top]
    · subst h; simp
    · rw [EReal.coe_mul_bot_of_pos h, EReal.add_bot]
  | coe b => rw [← EReal.coe_add, ← EReal.coe_mul, ← EReal.coe_mul, ← EReal.coe_mul, ← EReal.coe_add, mul_add]
  | top =>
    rw [EReal.coe_add_top]
    rcases lt_trichotomy c 0 with h | h | h
    · rw [EReal.coe_mul_top_of_neg h, EReal.add_bot]
    · subst h; simp
    · rw [EReal.coe_mul_top_of_pos h, ← EReal.coe_mul, EReal.coe_add_top]

theorem coe_sum {ι : Type} [Fintype ι] (f : ι → ℝ) : ((∑ i, f i : ℝ) : EReal) = ∑ i, (f i : EReal) := by
  classical
  exact Finset.induction_on (motive := fun s => ((∑ i ∈ s, f i : ℝ) : EReal) = ∑ i ∈ s, (f i : EReal)) Finset.univ
    (by simp) (fun a s ha h => by rw [Finset.sum_insert ha, Finset.sum_insert ha, EReal.coe_add, h])

namespace Data

variable (D : Data)

/-- With real inputs the two messages agree: the finite sums change places. -/
theorem msg_eq (hX : ∀ n k, ∃ r : ℝ, D.X n k = r) (hE : ∀ e k, ∃ r : ℝ, D.E e k = r) (hW1 : ∀ k h, ∃ r : ℝ, D.W1 k h = r)
    (hb1 : ∀ h, ∃ r : ℝ, D.b1 h = r) (hW2 : ∀ h j, ∃ r : ℝ, D.W2 h j = r) (e : Fin 4096) (o : Fin 32) :
    D.msgK e o = D.msgR e o := by
  choose x hx using hX
  choose ea hea using hE
  choose w1 hw1 using hW1
  choose b1 hb using hb1
  choose w2 hw2 using hW2
  have hh : ∀ h, D.hidden e h = ((max ((∑ k, ea e k * w1 k h) + b1 h) 0 : ℝ) : EReal) := by
    intro h
    unfold hidden
    simp only [hea, hw1, hb, ← EReal.coe_mul]
    rw [← coe_sum, ← EReal.coe_add, ← EReal.coe_zero]
    exact (EReal.coe_strictMono.monotone.map_max).symm
  generalize hH : (fun h => max ((∑ k, ea e k * w1 k h) + b1 h) 0) = H at *
  have hh' : ∀ h, D.hidden e h = (H h : EReal) := fun h => by rw [hh h, ← hH]
  unfold msgK msgR node nodeB
  simp only [hx, hw2, hh', ← EReal.coe_mul, ← coe_sum]
  simp only [real_mul_add, Finset.sum_add_distrib]
  congr 1
  simp only [← EReal.coe_mul, ← coe_sum]
  congr 1
  simp only [Finset.mul_sum]
  rw [Finset.sum_comm]
  exact Finset.sum_congr rfl fun k _ => Finset.sum_congr rfl fun h _ => by ring

end Data

/-! ## The source words -/

/-- Every source word names a node. -/
def SrcOk (D : Data) : Prop := ∀ e, (D.src e).toNat < 256

/-- Then the word is the number of its row. -/
theorem src_row {D : Data} (h : SrcOk D) (e : Fin 4096) : D.src e = BitVec.ofNat 32 (D.row e).val := by
  apply BitVec.eq_of_toNat_eq
  have := h e
  rw [BitVec.toNat_ofNat]
  show _ = (D.src e).toNat % 256 % 2 ^ 32
  omega

end Cert.Spec

end
-- ==== Proof.ValueKI.lean ====
/- The values tracked through the grid: the running sums, the aggregate, and the head at the last point. -/
module

public import proofs.«01_k».proof.Proof.ReadNode
public import proofs.«01_k».proof.Proof.ReadMask
public import proofs.«01_k».proof.Proof.ReadEdge
public import proofs.«01_k».proof.Proof.ReadHead
public import proofs.«01_k».proof.Proof.ReadBlk
public import proofs.«01_k».proof.Proof.Spec

@[expose] public section

set_option maxRecDepth 16384

noncomputable section

namespace Cert.KernelIdeal.Read

open Cert.KernelIdeal Cert.KernelIdeal.Gen Cert.KernelIdeal.Body
open Idealize.ShloMosaic Cert.Spec

variable (m : (ℓ : Loc nD τ sig) → Buf (Elt Ideal) ℓ)

/-- The arguments in the launch memory, as plain tables. -/
def data (c : Dev nD) : Data where
  X n k := (m ((c.tc : Thread nD τ).loc main_arg0) : Vec Ideal S256x510 .f32) (ix2 n k)
  E e k := (m ((c.tc : Thread nD τ).loc main_arg3) : Vec Ideal S4096x4096 .f32) (ix2 e k)
  W1 k h := (m ((c.tc : Thread nD τ).loc main_arg4) : Vec Ideal S4096x192 .f32) (ix2 k h)
  b1 h := (m ((c.tc : Thread nD τ).loc main_arg5) : Vec Ideal S192 .f32) (ix1 h)
  W2 h j := (m ((c.tc : Thread nD τ).loc main_arg6) : Vec Ideal S192x16320 .f32) (ix2 h j)
  b2 j := (m ((c.tc : Thread nD τ).loc main_arg7) : Vec Ideal S16320 .f32) (ix1 j)
  Wr k o := (m ((c.tc : Thread nD τ).loc main_arg8) : Vec Ideal S510x32 .f32) (ix2 k o)
  bc o := (m ((c.tc : Thread nD τ).loc main_arg9) : Vec Ideal S32 .f32) (ix1 o)
  L1 j r := (m ((c.tc : Thread nD τ).loc main_arg10) : Vec Ideal S8192x96 .f32) (ix2 j r)
  c1 r := (m ((c.tc : Thread nD τ).loc main_arg11) : Vec Ideal S96 .f32) (ix1 r)
  L2 r p := (m ((c.tc : Thread nD τ).loc main_arg12) : Vec Ideal S96x48 .f32) (ix2 r p)
  c2 p := (m ((c.tc : Thread nD τ).loc main_arg13) : Vec Ideal S48 .f32) (ix1 p)
  L3 p q := (m ((c.tc : Thread nD τ).loc main_arg14) : Vec Ideal S48x65280 .f32) (ix2 p q)
  c3 q := (m ((c.tc : Thread nD τ).loc main_arg15) : Vec Ideal S65280 .f32) (ix1 q)
  src e := (m ((c.tc : Thread nD τ).loc main_arg1) : Vec Ideal S2x4096 .i32) (ix2 0 e)
  dst e := (m ((c.tc : Thread nD τ).loc main_arg1) : Vec Ideal S2x4096 .i32) (ix2 1 e)

/-! The clipped blocks, read in the tables. -/

theorem x_at (c : Dev nD) (t : Fin cfg0.N) (d : Vec Ideal S256x128 .f32) (ht : t.val < 4) (n : Fin 256) (k : Fin 128) (h : 128 * t.val + k.val < 510) :
    fil0 m c t d (ix2 n k) = (data m c).X n ⟨128 * t.val + k.val, h⟩ := by
  rw [fil0_read m c t d ht n k h, V_main_arg0]; rfl

theorem w2_at (c : Dev nD) (t : Fin cfg0.N) (d : Vec Ideal S192x4096 .f32) (ht : t.val < 4) (i : Fin 192) (j : Fin 4096) (h : 4096 * t.val + j.val < 16320) :
    fil1 m c t d (ix2 i j) = (data m c).W2 i ⟨4096 * t.val + j.val, h⟩ := by
  rw [fil1_read m c t d ht i j h, V_main_arg6]; rfl

theorem b2_at (c : Dev nD) (t : Fin cfg0.N) (d : Vec Ideal S128x32 .f32) (ht : t.val < 4) (k : Fin 128) (o : Fin 32) (h : 128 * t.val + k.val < 510) :
    fil3 m c t d (ix2 k o) = (data m c).b2 (Data.col ⟨128 * t.val + k.val, h⟩ o) := by
  rw [fil3_read m c t d ht k o h, v0_read]; rfl

theorem wr_at (c : Dev nD) (t : Fin cfg0.N) (d : Vec Ideal S128x32 .f32) (ht : t.val < 4) (k : Fin 128) (o : Fin 32) (h : 128 * t.val + k.val < 510) :
    fil4 m c t d (ix2 k o) = (data m c).Wr ⟨128 * t.val + k.val, h⟩ o := by
  rw [fil4_read m c t d ht k o h, V_main_arg8]; rfl

/-! The summands of the three running sums over the node table's columns. -/

def gnT (D : Data) (n : Fin 256) (q : Fin 6144) (k : Fin 510) : EReal :=
  D.X n k * D.W2 ⟨q.val % 192, Nat.mod_lt _ (by decide)⟩ (Data.col k ⟨q.val / 192, by omega⟩)
def xbT (D : Data) (n : Fin 256) (o : Fin 32) (k : Fin 510) : EReal := D.X n k * D.b2 (Data.col k o)
def xrT (D : Data) (n : Fin 256) (o : Fin 32) (k : Fin 510) : EReal := D.X n k * D.Wr k o

/-- What a node point adds to the node table, in the tables, -/
theorem contrib_at (c : Dev nD) (t : Fin cfg0.N) (d0 : Vec Ideal S256x128 .f32) (d1 : Vec Ideal S192x4096 .f32) (ht : t.val < 4) (n : Fin 256) (q : Fin 6144) :
    contrib (grid0.coords t) (fil0 m c t d0) (fil1 m c t d1) (ix2 n q) = ∑ k : Fin 128, ext (gnT (data m c) n q) (128 * t.val + k.val) := by
  rw [contrib_read, pt_coords]
  refine Finset.sum_congr rfl fun k _ => ?_
  rw [pay37_read _ ht, pay15_read _ ht]
  by_cases h : 128 * t.val + k.val < 510
  · have h' : 4096 * t.val + (32 * k.val + q.val / 192) < 16320 := by omega
    rw [if_pos h, if_pos h', ext_lt _ h, x_at m c t d0 ht n k h, w2_at m c t d1 ht _ _ h']
    refine congrArg (fun z => _ * (data m c).W2 _ z) (Fin.ext ?_)
    show 4096 * t.val + (32 * k.val + q.val / 192) = 32 * (128 * t.val + k.val) + q.val / 192
    omega
  · rw [if_neg h, ext_ge _ h, zero_mul]

/-- to the product with the bias, -/
theorem xb_at (c : Dev nD) (t : Fin cfg0.N) (d0 : Vec Ideal S256x128 .f32) (d3 : Vec Ideal S128x32 .f32) (ht : t.val < 4) (n : Fin 256) (o : Fin 32) :
    xbTerm (grid0.coords t) (fil0 m c t d0) (fil3 m c t d3) (ix2 n o) = ∑ k : Fin 128, ext (xbT (data m c) n o) (128 * t.val + k.val) := by
  rw [xb_read, pt_coords]
  refine Finset.sum_congr rfl fun k _ => ?_
  rw [pay37_read _ ht]
  by_cases h : 128 * t.val + k.val < 510
  · rw [if_pos h, ext_lt _ h, x_at m c t d0 ht n k h, b2_at m c t d3 ht k o h]; rfl
  · rw [if_neg h, ext_ge _ h, zero_mul]

/-- and to the product with the root weight. -/
theorem xr_at (c : Dev nD) (t : Fin cfg0.N) (d0 : Vec Ideal S256x128 .f32) (d4 : Vec Ideal S128x32 .f32) (ht : t.val < 4) (n : Fin 256) (o : Fin 32) :
    xrTerm (grid0.coords t) (fil0 m c t d0) (fil4 m c t d4) (ix2 n o) = ∑ k : Fin 128, ext (xrT (data m c) n o) (128 * t.val + k.val) := by
  rw [xr_read, pt_coords]
  refine Finset.sum_congr rfl fun k _ => ?_
  rw [pay37_read _ ht]
  by_cases h : 128 * t.val + k.val < 510
  · rw [if_pos h, ext_lt _ h, x_at m c t d0 ht n k h, wr_at m c t d4 ht k o h]; rfl
  · rw [if_neg h, ext_ge _ h, zero_mul]

/-- The scratch after `t` node points: the running sums over the first `128 t` columns, the first weight, the selection matrix. -/
structure Node (D : Data) (t : ℕ) (s : Scr Ideal) : Prop where
  gn : ∀ n q, s.gn (ix2 n q) = ∑ k ∈ Finset.range (128 * t), ext (gnT D n q) k
  xb : ∀ n o, s.xb (ix2 n o) = ∑ k ∈ Finset.range (128 * t), ext (xbT D n o) k
  xr : ∀ n o, s.xr (ix2 n o) = ∑ k ∈ Finset.range (128 * t), ext (xrT D n o) k
  w1b : ∀ k h, s.w1b (ix2 k h) = D.W1 k h
  sel : ∀ (q : Fin 6144) (o : Fin 32), s.sel (ix2 q o) = if q.val / 192 = o.val then (1 : EReal) else 0

/-- The stores into the scratch, read at an entry: the first point stores its terms, a later one adds them. -/
theorem pay8_read (v : FVec Ideal S256x6144 .f32) (n : Fin 256) (q : Fin 6144) : k0_pay8 v (ix2 n q) = v (ix2 n q) := by pointwise [k0_pay8]
theorem pay9_read (v : FVec Ideal S256x32 .f32) (n : Fin 256) (q : Fin 32) : k0_pay9 v (ix2 n q) = v (ix2 n q) := by pointwise [k0_pay9]
theorem pay10_read (v : FVec Ideal S256x32 .f32) (n : Fin 256) (q : Fin 32) : k0_pay10 v (ix2 n q) = v (ix2 n q) := by pointwise [k0_pay10]
theorem pay11_read (v : Vec Ideal S4096x192 .f32) (n : Fin 4096) (q : Fin 192) : k0_pay11 v (ix2 n q) = v (ix2 n q) := by pointwise [k0_pay11]
theorem pay1_read (v : FVec Ideal S256x6144 .f32) (w : Vec Ideal S256x6144 .bf16) (n : Fin 256) (q : Fin 6144) : k0_pay1 v w (ix2 n q) = w (ix2 n q) + v (ix2 n q) := by pointwise [k0_pay1]
theorem pay2_read (v : FVec Ideal S256x32 .f32) (w : Vec Ideal S256x32 .f32) (n : Fin 256) (q : Fin 32) : k0_pay2 v w (ix2 n q) = w (ix2 n q) + v (ix2 n q) := by pointwise [k0_pay2]
theorem pay3_read (v : FVec Ideal S256x32 .f32) (w : Vec Ideal S256x32 .f32) (n : Fin 256) (q : Fin 32) : k0_pay3 v w (ix2 n q) = w (ix2 n q) + v (ix2 n q) := by pointwise [k0_pay3]

/-- The first piece of a running sum. -/
theorem sum_first (f : ℕ → EReal) (t : ℕ) (h0 : t = 0) : ∑ k : Fin 128, f (128 * t + k.val) = ∑ k ∈ Finset.range (128 * (t + 1)), f k := by
  subst h0; rw [sum_piece, Nat.mul_zero, Finset.range_zero, Finset.sum_empty, zero_add]

/-- The scratch after the first point. -/
theorem node_first (c : Dev nD) (t : Fin cfg0.N) (d0 : Vec Ideal S256x128 .f32) (d1 : Vec Ideal S192x4096 .f32) (d3 d4 : Vec Ideal S128x32 .f32) (h0 : t.val = 0)
    (x5 x6 x7 x8 x9 x10 x11 x12 x13 x14 x15 s) :
    Node (data m c) (t.val + 1) (stepA (grid0.coords t) (fil0 m c t d0) (fil1 m c t d1) (iblk m c 2 t) (fil3 m c t d3) (fil4 m c t d4) x5 x6 x7 x8 x9 x10 x11 x12 x13 x14 x15 s) where
  gn n q := (pay8_read _ n q).trans ((contrib_at m c t d0 d1 (by omega) n q).trans (sum_first _ _ h0))
  xb n o := (pay9_read _ n o).trans ((xb_at m c t d0 d3 (by omega) n o).trans (sum_first _ _ h0))
  xr n o := (pay10_read _ n o).trans ((xr_at m c t d0 d4 (by omega) n o).trans (sum_first _ _ h0))
  w1b k h := (pay11_read _ k h).trans ((w1_blk m c t k h).trans (congrFun (V_main_arg4 m c) _))
  sel q o := sel_read q o

/-- One more node point. -/
theorem node_later (c : Dev nD) (t : Fin cfg0.N) (d0 : Vec Ideal S256x128 .f32) (d1 : Vec Ideal S192x4096 .f32) (d3 d4 : Vec Ideal S128x32 .f32) (h4 : t.val < 4)
    (x2 x5 x6 x7 x8 x9 x10 x11 x12 x13 x14 x15 s) (I : Node (data m c) t.val s) :
    Node (data m c) (t.val + 1) (stepB (grid0.coords t) (fil0 m c t d0) (fil1 m c t d1) x2 (fil3 m c t d3) (fil4 m c t d4) x5 x6 x7 x8 x9 x10 x11 x12 x13 x14 x15 s) where
  gn n q := by
    rw [sum_piece, ← I.gn, ← contrib_at m c t d0 d1 h4]
    exact pay1_read _ _ n q
  xb n o := by
    rw [sum_piece, ← I.xb, ← xb_at m c t d0 d3 h4]
    exact pay2_read _ _ n o
  xr n o := by
    rw [sum_piece, ← I.xr, ← xr_at m c t d0 d4 h4]
    exact pay3_read _ _ n o
  w1b := I.w1b
  sel := I.sel

/-! ## The edge points -/

/-- What an edge point adds to the aggregate: the shares of its 256 edges. -/
theorem edges_at (c : Dev nD) (hs : SrcOk (data m c)) (t : Fin cfg0.N) (ht : 4 ≤ t.val) (s : Scr Ideal) (I : Node (data m c) 4 s) (n : Fin 256) (o : Fin 32) :
    k0_pay4 (k0_pay67 (iblk m c 7 t)) (k0_pay68 (iblk m c 8 t)) (k0_pay69 (iblk m c 6 t) s.w1b (iblk m c 5 t) (iblk m c 7 t) s.gn s.sel) s.xb (ix2 n o)
      = ∑ i : Fin 256, ext ((data m c).share (data m c).msgK n o) (256 * (t.val - 4) + i.val) := by
  have hN : t.val < 20 := t.isLt
  have hlt : ∀ i : Fin 256, 256 * (t.val - 4) + i.val < 4096 := fun i => by omega
  have hsrc : ∀ i : Fin 256, (iblk m c 7 t : Vec Ideal S256x1 .i32) (ix2 i 0) = (data m c).src ⟨_, hlt i⟩ := fun i =>
    (src_blk m c t ht i).trans (v3_read m c _)
  have hdst : ∀ i : Fin 256, (iblk m c 8 t : Vec Ideal S1x1x256 .i32) (ix3 0 0 i) = (data m c).dst ⟨_, hlt i⟩ := fun i =>
    (dst_blk m c t ht i).trans (v6_read m c _ i)
  have hhid : ∀ (i : Fin 256) (h : Fin 192), hid (iblk m c 6 t) s.w1b (iblk m c 5 t) i h = (data m c).hidden ⟨_, hlt i⟩ h := fun i h => by
    have e1 : ∀ k : Fin 4096, (iblk m c 6 t : Vec Ideal S256x4096 .f32) (ix2 i k) = (data m c).E ⟨_, hlt i⟩ k := fun k =>
      (ea_blk m c t ht i k).trans (congrFun (V_main_arg3 m c) _)
    have e2 : (iblk m c 5 t : Vec Ideal S1x192 .f32) (ix2 0 h) = (data m c).b1 h := (b1_blk m c t 0 h).trans (v7_read m c h)
    unfold hid Data.hidden
    rw [e2]
    simp only [e1, I.w1b]
  rw [pay4_read]
  refine Finset.sum_congr rfl fun i _ => ?_
  have hr := src_row hs ⟨_, hlt i⟩
  rw [ext_lt _ (hlt i), dt_read, hdst, pay69_read]
  simp only [pf_read, hsrc, hhid]
  rw [sum_hot _ _ hr (fun n => s.xb (ix2 n o))]
  have hg : ∀ q : Fin 6144, (∑ n : Fin 256, (if (data m c).src ⟨_, hlt i⟩ = BitVec.ofNat 32 n.val then (1 : EReal) else 0) * s.gn (ix2 n q))
      = s.gn (ix2 ((data m c).row ⟨_, hlt i⟩) q) := fun q => sum_hot _ _ hr (fun n => s.gn (ix2 n q))
  simp only [hg, I.sel]
  rw [sum_sel (fun q => (data m c).hidden ⟨_, hlt i⟩ ⟨q.val % 192, Nat.mod_lt _ (by decide)⟩ * s.gn (ix2 ((data m c).row ⟨_, hlt i⟩) q)) o]
  have hm : (∑ h : Fin 192, (data m c).hidden ⟨_, hlt i⟩ ⟨(⟨192 * o.val + h.val, by omega⟩ : Fin 6144).val % 192, Nat.mod_lt _ (by decide)⟩
        * s.gn (ix2 ((data m c).row ⟨_, hlt i⟩) ⟨192 * o.val + h.val, by omega⟩)) + s.xb (ix2 ((data m c).row ⟨_, hlt i⟩) o)
      = (data m c).msgK ⟨_, hlt i⟩ o := by
    unfold Data.msgK
    congr 1
    · refine Finset.sum_congr rfl fun h _ => ?_
      have e1 : (⟨(192 * o.val + h.val) % 192, Nat.mod_lt _ (by decide)⟩ : Fin 192) = h := Fin.ext (by simp only; omega)
      have e2 : (⟨(192 * o.val + h.val) / 192, by omega⟩ : Fin 32) = o := Fin.ext (by simp only; omega)
      rw [I.gn, sum_ext_512]
      unfold gnT Data.node
      simp only [e1, e2]
    · rw [I.xb, sum_ext_512]; rfl
  rw [hm]
  unfold Data.share
  split
  · rw [one_mul]
  · rw [zero_mul]

/-- The aggregate after `b` edge points. -/
def Agg (D : Data) (b : ℕ) (s : Scr Ideal) : Prop :=
  ∀ n o, s.agg (ix2 n o) = ∑ e ∈ Finset.range (256 * b), ext (D.share D.msgK n o) e

/-- What is known of the scratch before point `t`. -/
def Inv (c : Dev nD) (t : ℕ) (s : Scr Ideal) : Prop :=
  (1 ≤ t → Node (data m c) (min t 4) s) ∧ (5 ≤ t → Agg (data m c) (t - 4) s)

/-- The head, of the scratch after the last point. -/
theorem head_at (c : Dev nD) (t : Fin cfg0.N) (s : Scr Ideal) (I : Node (data m c) 4 s) (A : Agg (data m c) 16 s) (x0 x1 x2 x3 x4 x5 x6 x7 x8) (q : Fin 65280) :
    headOut x0 x1 x2 x3 x4 x5 x6 x7 x8 (iblk m c 9 t) (iblk m c 10 t) (iblk m c 11 t) (iblk m c 12 t) (iblk m c 13 t) (iblk m c 14 t) (iblk m c 15 t) s (ix2 0 q)
      = (data m c).head ((data m c).conv (data m c).msgK) q := by
  unfold headOut
  rw [headOut_read]
  have e9 : ∀ (n : Fin 256) (o : Fin 32), act s.xr s.agg (iblk m c 9 t) n o = (data m c).conv (data m c).msgK n o := fun n o => by
    unfold act Data.conv
    rw [bc_blk, v8_read, I.xr, A, sum_ext_512, show 256 * 16 = 4096 from rfl, sum_ext]
    rfl
  have e10 : ∀ j r, (iblk m c 10 t : Vec Ideal S8192x96 .f32) (ix2 j r) = (data m c).L1 j r := fun j r => (wl1_blk m c t j r).trans (congrFun (V_main_arg10 m c) _)
  have e12 : ∀ j r, (iblk m c 12 t : Vec Ideal S96x48 .f32) (ix2 j r) = (data m c).L2 j r := fun j r => (wl2_blk m c t j r).trans (congrFun (V_main_arg12 m c) _)
  have e14 : ∀ j r, (iblk m c 14 t : Vec Ideal S48x65280 .f32) (ix2 j r) = (data m c).L3 j r := fun j r => (wl3_blk m c t j r).trans (congrFun (V_main_arg14 m c) _)
  have e11 : ∀ r, (iblk m c 11 t : Vec Ideal S1x96 .f32) (ix2 0 r) = (data m c).c1 r := fun r => (bl1_blk m c t 0 r).trans (v9_read m c r)
  have e13 : ∀ r, (iblk m c 13 t : Vec Ideal S1x48 .f32) (ix2 0 r) = (data m c).c2 r := fun r => (bl2_blk m c t 0 r).trans (v10_read m c r)
  have e15 : ∀ r, (iblk m c 15 t : Vec Ideal S1x65280 .f32) (ix2 0 r) = (data m c).c3 r := fun r => (bl3_blk m c t 0 r).trans (v11_read m c r)
  simp only [e9, e10, e11, e12, e13, e14, e15]
  rfl

/-- The tracking of the values. -/
def track (hs : ∀ c, SrcOk (data m c)) : Track (F := Ideal) m where
  Inv := Inv m
  G c Y := ∀ q : Fin 65280, Y (ix2 0 q) = (data m c).head ((data m c).conv (data m c).msgK) q
  init c s := ⟨fun h => by omega, fun h => by omega⟩
  hA c t d0 d1 d3 d4 s h0 I := ⟨fun _ => by
    rw [show min (t.val + 1) 4 = t.val + 1 by omega]
    exact node_first m c t d0 d1 d3 d4 h0 _ _ _ _ _ _ _ _ _ _ _ s, fun h => by omega⟩
  hB c t d0 d1 d3 d4 s h1 h4 I := ⟨fun _ => by
    have := I.1 h1
    rw [show min t.val 4 = t.val by omega] at this
    rw [show min (t.val + 1) 4 = t.val + 1 by omega]
    exact node_later m c t d0 d1 d3 d4 h4 _ _ _ _ _ _ _ _ _ _ _ _ s this, fun h => by omega⟩
  hC c t d0 d1 d3 d4 s h4 I := by
    have J := I.1 (by omega)
    rw [show min t.val 4 = 4 by omega] at J
    refine ⟨fun _ => ?_, fun _ n o => ?_⟩
    · rw [show min (t.val + 1) 4 = 4 by omega]
      exact ⟨J.gn, J.xb, J.xr, J.w1b, J.sel⟩
    · rw [show t.val + 1 - 4 = (t.val - 4) + 1 by omega, sum_piece, ← edges_at m c (hs c) t (by omega) s J n o,
        show t.val - 4 = 0 by omega, Nat.mul_zero, Finset.range_zero, Finset.sum_empty, zero_add]
      exact pay5_read _ _ _ _ n o
  hD c t d0 d1 d3 d4 s h5 I := by
    have J := I.1 (by omega)
    rw [show min t.val 4 = 4 by omega] at J
    refine ⟨fun _ => ?_, fun _ n o => ?_⟩
    · rw [show min (t.val + 1) 4 = 4 by omega]
      exact ⟨J.gn, J.xb, J.xr, J.w1b, J.sel⟩
    · rw [show t.val + 1 - 4 = (t.val - 4) + 1 by omega, sum_piece, ← edges_at m c (hs c) t (by omega) s J n o, ← I.2 h5 n o]
      exact pay6_read _ _ _ _ _ n o
  hE c t d0 d1 d3 d4 s h I q := by
    have J := I.1 (by omega)
    rw [show min (t.val + 1) 4 = 4 by omega] at J
    have A := I.2 (by omega)
    rw [show t.val + 1 - 4 = 16 by omega] at A
    exact head_at m c t s J A _ _ _ _ _ _ _ _ _ q

end Cert.KernelIdeal.Read

end
-- ==== Proof.ResultKI.lean ====
/- The result array, written back once, whole, at the last point. -/
module

public import proofs.«01_k».proof.Proof.ValueKI
public import Idealize.ShloMosaic.Lib.Pipeline.ArrRel

@[expose] public section

set_option maxRecDepth 16384

noncomputable section

namespace Cert.KernelIdeal.Read

open Cert.KernelIdeal Cert.KernelIdeal.Gen Cert.KernelIdeal.Body
open Idealize.ShloMosaic Idealize.ShloMosaic.TcCoe Idealize.SL.Sem Cert.Spec

variable {m : (ℓ : Loc nD τ sig) → Buf (Elt Ideal) ℓ}

/-- The last point of the grid. -/
def lastPt : Fin cfg0.N := ⟨19, by decide⟩

/-- The result is written back once, whole, at the last point. -/
theorem whole : (cfg0.win 16).WholeAt lastPt := by decide +kernel

/-- What a run leaves in the result meets the predicate kept of it. -/
theorem result_kept (T : Track (F := Ideal) m) {r : PUnit × MemSt nD τ sig (Elt Ideal)}
    (h : Pipeline.RDat.FramePost cfg0 (fun c => (dats T c).toRRel isRes (leavesG T c)) (V m) r) (c : Dev nD) :
    T.G c (r.2.mem ((c.tc : Thread nD τ).loc main_v12)) := by
  obtain ⟨X, hX, hA⟩ := Pipeline.RDat.ArrAt.emb_eq_of_wholeAt ((h c).1 16) whole
  have hG : T.G c X := Pipeline.Dat.toRRel_leaves _ (w := (16 : Fin cfg0.W)) rfl hX rfl
  have e : r.2.mem ((c.tc : Thread nD τ).loc main_v12) = X := funext fun j => hA j
  rw [e]
  exact hG

end Cert.KernelIdeal.Read

end
-- ==== Proof.PreRead.lean ====
/- What the precondition says of the arguments: real numbers, and source words between 0 and 255. -/
module

public import proofs.«01_k».proof.Defs
public import proofs.«01_k».proof.Proof.ValueKI

@[expose] public section

set_option maxRecDepth 16384

noncomputable section

namespace Cert.Pre_real_inputs

open Idealize.ShloMosaic

/-- The precondition's side conditions on shapes. -/
theorem facts : Facts where
  slices_S2x4096_S1x4096_0_0 := by decide
  shapeCasts_S1x4096_S4096 := by decide
  bcast_S_S256x510 := by decide
  bcast_S_S4096x4096 := by decide
  bcast_S_S4096x192 := by decide
  bcast_S_S192 := by decide
  bcast_S_S192x16320 := by decide
  bcast_S_S4096 := by decide

end Cert.Pre_real_inputs

namespace Cert.KernelIdeal.Read

open Cert.KernelIdeal Cert.KernelIdeal.Gen Cert.KernelIdeal.Body
open Idealize.ShloMosaic Cert.Spec

/-- An extended real below `∞` in absolute value is a real number. -/
theorem real_of_abs (x : EReal) (h : max x (-x) < ⊤) : ∃ r : ℝ, x = r := by
  induction x using EReal.rec with
  | bot => simp at h
  | coe r => exact ⟨r, rfl⟩
  | top => simp at h

/-- A flag of the comparison with `∞` says its number is real. -/
theorem real_of_flag {s : Shape} (x : FVec Ideal s .f32) (y : FVec Ideal s .f32) (hy : ∀ i, y i = FloatOps.ofBits (F := Ideal) .f32 0x7F800000#32)
    (h : cmpf .olt (Host.absf x) y = fun _ => 1#1) (i : s.Idx) : ∃ r : ℝ, x i = r := by
  have hi : Ideal.cmp .olt (max (x i) (-(x i))) (y i) = 1#1 := congrFun h i
  rw [hy i] at hi
  have ht : FloatOps.ofBits (F := Ideal) .f32 0x7F800000#32 = (⊤ : EReal) := by simp [Ideal.ofBits, Ideal.ieee]
  rw [ht] at hi
  refine real_of_abs _ ?_
  by_contra hn
  simp [Ideal.cmp, hn] at hi

/-- What the precondition says of the tables. -/
structure Real (D : Data) : Prop where
  X : ∀ n k, ∃ r : ℝ, D.X n k = r
  E : ∀ e k, ∃ r : ℝ, D.E e k = r
  W1 : ∀ k h, ∃ r : ℝ, D.W1 k h = r
  b1 : ∀ h, ∃ r : ℝ, D.b1 h = r
  W2 : ∀ h j, ∃ r : ℝ, D.W2 h j = r
  src : SrcOk D

/-- A word between 0 and 255, read signed. -/
theorem word_lt (w : BitVec 32) (h : IntOp.andi (IntOp.cmpi .sge w 0#32) (IntOp.cmpi .slt w 256#32) = 1#1) : w.toNat < 256 := by
  simp only [IntOp.cmpi, IntOp.andi] at h
  have hb : ((0#32).sle w && w.slt 256#32) = true := by
    generalize (0#32).sle w = a at h ⊢
    generalize w.slt 256#32 = b at h ⊢
    revert h
    revert a b
    decide
  rw [Bool.and_eq_true] at hb
  obtain ⟨h1, h2⟩ := hb
  simp only [BitVec.sle_eq_decide, BitVec.slt_eq_decide, decide_eq_true_eq, BitVec.toInt_eq_toNat_cond] at h1 h2
  simp at h1 h2
  omega

/-- What the precondition says of the arguments. -/
theorem real_of_pre (m : (ℓ : Loc nD τ sig) → Buf (Elt Ideal) ℓ)
    (h : Cert.Pre_KernelIdeal_real_inputs (hPre_real_inputs := Cert.Pre_real_inputs.facts) m) (c : Dev nD) : Real (data m c) := by
  obtain ⟨h1, h2, h3, h4, h5, h6⟩ := h c
  refine ⟨fun n k => ?_, fun e k => ?_, fun k j => ?_, fun j => ?_, fun j k => ?_, fun e => ?_⟩
  · exact real_of_flag _ _ (fun i => by pointwise) h1 (ix2 n k)
  · exact real_of_flag _ _ (fun i => by pointwise) h2 (ix2 e k)
  · exact real_of_flag _ _ (fun i => by pointwise) h3 (ix2 k j)
  · exact real_of_flag _ _ (fun i => by pointwise) h4 (ix1 j)
  · exact real_of_flag _ _ (fun i => by pointwise) h5 (ix2 j k)
  · have h7 := congrFun h6 (ix1 e)
    refine word_lt _ (Eq.trans ?_ h7)
    unfold data Cert.Pre_real_inputs.fn Cert.Pre_real_inputs.fn_part1
    pointwise

end Cert.KernelIdeal.Read

end
-- ==== Proof.RefValue.lean ====
/- The reference read at an entry: its result is the head of the convolution over the reference's form of the messages. -/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import Idealize.ShloMosaic.Lib.Routing.Ops
public import Idealize.ShloMosaic.Lib.Routing.OpsPair
public import Idealize.ShloMosaic.Lib.ReduceAll
public import Idealize.ShloMosaic.Lib.Pointwise

@[expose] public section

set_option maxRecDepth 16384

noncomputable section

namespace Cert.ReferenceIdeal.Spec

open Cert.ReferenceIdeal Cert.ReferenceIdeal.Gen Cert.ReferenceIdeal.Read
open Idealize.ShloMosaic Cert.Spec

variable (x0 : Vec Ideal S256x510 .f32) (x1 : Vec Ideal S2x4096 .i32) (x3 : Vec Ideal S4096x4096 .f32) (x4 : Vec Ideal S4096x192 .f32)
  (x5 : Vec Ideal S192 .f32) (x6 : Vec Ideal S192x16320 .f32) (x7 : Vec Ideal S16320 .f32) (x8 : Vec Ideal S510x32 .f32) (x9 : Vec Ideal S32 .f32)
  (x10 : Vec Ideal S8192x96 .f32) (x11 : Vec Ideal S96 .f32) (x12 : Vec Ideal S96x48 .f32) (x13 : Vec Ideal S48 .f32)
  (x14 : Vec Ideal S48x65280 .f32) (x15 : Vec Ideal S65280 .f32)

/-- The reference's arguments as plain tables. -/
def tables : Data where
  X n k := x0 (ix2 n k)
  E e k := x3 (ix2 e k)
  W1 k h := x4 (ix2 k h)
  b1 h := x5 (ix1 h)
  W2 h j := x6 (ix2 h j)
  b2 j := x7 (ix1 j)
  Wr k o := x8 (ix2 k o)
  bc o := x9 (ix1 o)
  L1 j r := x10 (ix2 j r)
  c1 r := x11 (ix1 r)
  L2 r p := x12 (ix2 r p)
  c2 p := x13 (ix1 p)
  L3 p q := x14 (ix2 p q)
  c3 q := x15 (ix1 q)
  src e := x1 (ix2 0 e)
  dst e := x1 (ix2 1 e)

/-- The word of zero bits is zero. -/
theorem zero_word : FloatOps.ofBits (F := Ideal) .f32 0x00000000#32 = (0 : EReal) := by
  simp [Ideal.ofBits, Ideal.ieee]

/-! ## Index tables -/

/-- The source words as the gather reads them. -/
theorem src_read (e : Fin 4096) : val_main_v11 (F := Ideal) x1 (ix1 e) = x1 (ix2 0 e) := by
  rw [val_main_v11_apply, val_main_v10_apply]
  refine congrArg x1 (funext fun a => Fin.ext ?_)
  match a with
  | ⟨0, _⟩ => rfl
  | ⟨1, _⟩ => exact Nat.mod_eq_of_lt e.isLt

/-- The destination words as the scatter reads them. -/
theorem dst_read (e : Fin 4096) : val_main_v17 (F := Ideal) x1 (ix2 e 0) = x1 (ix2 1 e) := by
  rw [val_main_v17_apply, val_main_v13_apply, val_main_v12_apply]
  refine congrArg x1 (funext fun a => Fin.ext ?_)
  match a with
  | ⟨0, _⟩ => rfl
  | ⟨1, _⟩ => exact Nat.mod_eq_of_lt e.isLt

/-- A source word that names a node is not wrapped. -/
theorem word_read (e : Fin 4096) (h : (x1 (ix2 0 e) : BitVec 32).toNat < 256) : val_main_call1_v5 (F := Ideal) x1 (ix2 e 0) = x1 (ix2 0 e) := by
  rw [val_main_call1_v5_apply, show idx_main_call1_v5 (ix2 e 0) = ix1 e from (eq_ix1 _), val_main_call1_v4_apply, val_main_call1_v1_apply,
    val_main_call1_v0_apply, val_main_call1_c_apply, src_read]
  exact Routing.wrap_of_lt _ _ (by omega)

/-- The bounds test passes at every edge. -/
theorem inside (h : ∀ e, (x1 (ix2 0 e) : BitVec 32).toNat < 256) (e : Fin 4096) : val_main_call1_v12 (F := Ideal) x1 (ix1 e) = 1#1 := by
  unfold val_main_call1_v12
  refine Host.reduce_andi_one _ _ _ _ _ rfl fun i => ?_
  obtain ⟨e', z, rfl⟩ : ∃ (e' : Fin 4096) (z : Fin 1), i = ix2 e' z := ⟨i 0, i 1, eq_ix2 i⟩
  obtain rfl : z = 0 := Subsingleton.elim _ _
  have he := h e'
  rw [val_main_call1_v11_apply, val_main_call1_v7_apply, val_main_call1_v10_apply, word_read x1 e' he, val_main_call1_v6_apply, val_main_call1_c_2_apply,
    val_main_call1_v9_apply, val_main_call1_v8_apply, val_main_call1_c_1_apply]
  generalize (x1 (ix2 0 e') : BitVec 32) = w at he
  have h1 : (0#32).sle w = true := by simp only [BitVec.sle_eq_decide, decide_eq_true_eq, BitVec.toInt_eq_toNat_cond]; simp; omega
  have h2 : w.sle 255#32 = true := by simp only [BitVec.sle_eq_decide, decide_eq_true_eq, BitVec.toInt_eq_toNat_cond]; simp; omega
  simp [IntOp.cmpi, IntOp.andi, h1, h2]

/-- The gathered rows: each edge's source row. -/
theorem gathered (h : SrcOk (tables x0 x1 x3 x4 x5 x6 x7 x8 x9 x10 x11 x12 x13 x14 x15)) (e : Fin 4096) (k : Fin 510) : val_main_v14 (F := Ideal) x0 x1 (ix2 e k) = (tables x0 x1 x3 x4 x5 x6 x7 x8 x9 x10 x11 x12 x13 x14 x15).X ((tables x0 x1 x3 x4 x5 x6 x7 x8 x9 x10 x11 x12 x13 x14 x15).row e) k := by
  rw [val_main_v14_apply, val_main_call1_v14_apply, show idx_main_call1_v14 (ix2 e k) = ix1 e from (eq_ix1 _), inside x1 h]
  refine Eq.trans (b := val_main_call1_v13 (F := Ideal) x0 x1 (ix2 e k)) (by simp [Scalar.select]) ?_
  unfold val_main_call1_v13
  exact Routing.gather_row gather_S256x510_S4096x1_S4096x510_1_0_n_n_0_1_1510 rfl rfl rfl rfl rfl x0 _ e k ((tables x0 x1 x3 x4 x5 x6 x7 x8 x9 x10 x11 x12 x13 x14 x15).row e)
    ((word_read x1 e (h e)).trans (src_row h e)) (by decide)

/-! ## The edge network -/

/-- The hidden layer of the edge network. -/
theorem hidden_read (e : Fin 4096) (j : Fin 192) : val_main_v4 (F := Ideal) x3 x4 x5 (ix2 e j) = (tables x0 x1 x3 x4 x5 x6 x7 x8 x9 x10 x11 x12 x13 x14 x15).hidden e j := by
  rw [val_main_v4_apply, val_main_v3_apply, val_main_v0_apply, val_main_v2_apply, val_main_v1_apply, val_main_call0_v0_apply, val_main_call0_cst_apply, zero_word]
  have el : ∀ k : Fin 4096, lidx_main_v0 (ix2 e j) k = ix2 e k := fun k => eq_ix2 _
  have er : ∀ k : Fin 4096, ridx_main_v0 (ix2 e j) k = ix2 k j := fun k => eq_ix2 _
  have eb : idx_main_v1 (idx_main_v2 (ix2 e j)) = ix1 j := eq_ix1 _
  simp only [el, er, eb]
  rfl

/-- An edge's own weight matrix. -/
theorem weight_read (e : Fin 4096) (k : Fin 510) (o : Fin 32) :
    val_main_v9 (F := Ideal) x3 x4 x5 x6 x7 (ix3 e k o) = (∑ j, (tables x0 x1 x3 x4 x5 x6 x7 x8 x9 x10 x11 x12 x13 x14 x15).hidden e j * (tables x0 x1 x3 x4 x5 x6 x7 x8 x9 x10 x11 x12 x13 x14 x15).W2 j (Data.col k o)) + (tables x0 x1 x3 x4 x5 x6 x7 x8 x9 x10 x11 x12 x13 x14 x15).b2 (Data.col k o) := by
  have hi : idx_main_v9 (ix3 e k o) = ix2 e (Data.col k o) := by
    funext a
    apply Fin.ext
    match a with
    | ⟨0, _⟩ => show ((e.val * 510 + k.val) * 32 + o.val) / 16320 = e.val; omega
    | ⟨1, _⟩ => show ((e.val * 510 + k.val) * 32 + o.val) % 16320 = 32 * k.val + o.val; omega
  rw [val_main_v9_apply, hi, val_main_v8_apply, val_main_v5_apply, val_main_v7_apply, val_main_v6_apply]
  have el : ∀ j : Fin 192, lidx_main_v5 (ix2 e (Data.col k o)) j = ix2 e j := fun j => eq_ix2 _
  have er : ∀ j : Fin 192, ridx_main_v5 (ix2 e (Data.col k o)) j = ix2 j (Data.col k o) := fun j => eq_ix2 _
  have eb : idx_main_v6 (idx_main_v7 (ix2 e (Data.col k o))) = ix1 (Data.col k o) := eq_ix1 _
  simp only [el, er, eb, hidden_read x0 x1 x3 x4 x5 x6 x7 x8 x9 x10 x11 x12 x13 x14 x15]
  rfl

/-- The messages. -/
theorem msg_read (h : SrcOk (tables x0 x1 x3 x4 x5 x6 x7 x8 x9 x10 x11 x12 x13 x14 x15)) (e : Fin 4096) (o : Fin 32) : val_main_v15 (F := Ideal) x0 x1 x3 x4 x5 x6 x7 (ix2 e o) = (tables x0 x1 x3 x4 x5 x6 x7 x8 x9 x10 x11 x12 x13 x14 x15).msgR e o := by
  rw [val_main_v15_apply]
  refine Finset.sum_congr rfl fun k _ => ?_
  rw [show lidx_main_v15 (ix2 e o) k = ix2 e k from eq_ix2 _, show ridx_main_v15 (ix2 e o) k = ix3 e k o from eq_ix3 _,
    gathered x0 x1 x3 x4 x5 x6 x7 x8 x9 x10 x11 x12 x13 x14 x15 h, weight_read x0 x1 x3 x4 x5 x6 x7 x8 x9 x10 x11 x12 x13 x14 x15]

/-! ## The scatter -/

/-- A node's number read signed. -/
theorem toInt_node (n : Fin 256) : (BitVec.ofNat 32 n.val).toInt = n.val := by
  have := n.isLt
  rw [BitVec.toInt_eq_toNat_cond, BitVec.toNat_ofNat]
  omega

/-- Edge `e`'s column `o'` lands at `(n, o)` exactly when its destination word is `n` and the columns agree. -/
theorem lands (idx : IVec S4096x1 32) (e : Fin 4096) (o' : Fin 32) (n : Fin 256) (o : Fin 32) :
    ScatterDims.resultIdx? scatter_S256x32_S4096x1_S4096x32_1_0_0_1 (ix2 e o') idx = some (ix2 n o) ↔ idx (ix2 e 0) = BitVec.ofNat 32 n.val ∧ o' = o := by
  have hm : (0 : Fin 2) ∈ ScatterDims.scatterDimsToOperandDims scatter_S256x32_S4096x1_S4096x32_1_0_0_1 := List.mem_singleton.2 rfl
  have hs0 : ScatterDims.start scatter_S256x32_S4096x1_S4096x32_1_0_0_1 (ix2 e o') idx 0 = (idx (ix2 e 0)).toInt := by
    unfold ScatterDims.start
    rw [dif_pos hm]
    refine congrArg (fun z => (idx z).toInt) (funext fun a => Fin.ext ?_)
    match a with
    | ⟨0, _⟩ => rfl
    | ⟨1, _⟩ => rfl
  have hs1 : ScatterDims.start scatter_S256x32_S4096x1_S4096x32_1_0_0_1 (ix2 e o') idx 1 = 0 := by
    unfold ScatterDims.start
    rw [dif_neg (by decide)]
  have hw0 : ScatterDims.window scatter_S256x32_S4096x1_S4096x32_1_0_0_1 (ix2 e o') 0 = 0 := by
    unfold ScatterDims.window
    rw [dif_neg (by decide)]
  have hw1 : ScatterDims.window scatter_S256x32_S4096x1_S4096x32_1_0_0_1 (ix2 e o') 1 = o'.val := by
    unfold ScatterDims.window
    rw [dif_pos (by decide)]
    rfl
  refine (Routing.resultIdx?_ix2 scatter_S256x32_S4096x1_S4096x32_1_0_0_1 (ix2 e o') idx n o).trans ?_
  rw [hs0, hs1, hw0, hw1]
  have hn := n.isLt
  constructor
  · rintro ⟨h1, h2⟩
    refine ⟨BitVec.eq_of_toInt_eq ?_, Fin.ext (by omega)⟩
    rw [toInt_node]
    omega
  · rintro ⟨h1, rfl⟩
    rw [h1, toInt_node]
    omega

/-- The scattered sum: what the edges that end at a node add to it. -/
theorem sum_read (h : SrcOk (tables x0 x1 x3 x4 x5 x6 x7 x8 x9 x10 x11 x12 x13 x14 x15)) (n : Fin 256) (o : Fin 32) :
    val_main_v18 (F := Ideal) x0 x1 x3 x4 x5 x6 x7 (ix2 n o) = ∑ e, (tables x0 x1 x3 x4 x5 x6 x7 x8 x9 x10 x11 x12 x13 x14 x15).share (tables x0 x1 x3 x4 x5 x6 x7 x8 x9 x10 x11 x12 x13 x14 x15).msgR n o e := by
  unfold val_main_v18
  show val_main_v16 (F := Ideal) (ix2 n o) + ∑ j ∈ Finset.univ.filter (fun j => ScatterDims.resultIdx? scatter_S256x32_S4096x1_S4096x32_1_0_0_1 j (val_main_v17 (F := Ideal) x1) = some (ix2 n o)),
    val_main_v15 (F := Ideal) x0 x1 x3 x4 x5 x6 x7 j = _
  rw [val_main_v16_apply, val_main_cst_apply, zero_word, zero_add]
  unfold Data.share
  rw [← Finset.sum_filter]
  refine (Finset.sum_nbij' (fun e => ix2 e o) (fun j => j 0) ?_ ?_ ?_ ?_ ?_).symm
  · intro e he
    rw [Finset.mem_filter] at he ⊢
    exact ⟨Finset.mem_univ _, (lands _ e o n o).2 ⟨(dst_read x1 e).trans he.2, rfl⟩⟩
  · intro j hj
    rw [Finset.mem_filter] at hj
    have hj2 := hj.2
    rw [eq_ix2 j] at hj2
    exact Finset.mem_filter.2 ⟨Finset.mem_univ _, (dst_read x1 (j 0)).symm.trans ((lands _ (j 0) (j 1) n o).1 hj2).1⟩
  · intro e _
    rfl
  · intro j hj
    rw [Finset.mem_filter] at hj
    have hj2 := hj.2
    rw [eq_ix2 j] at hj2
    have := ((lands _ (j 0) (j 1) n o).1 hj2).2
    rw [← this]
    exact (eq_ix2 j).symm
  · intro e _
    exact (msg_read x0 x1 x3 x4 x5 x6 x7 x8 x9 x10 x11 x12 x13 x14 x15 h e o).symm

/-! ## The convolution and the head -/

/-- The convolution. -/
theorem conv_read (h : SrcOk (tables x0 x1 x3 x4 x5 x6 x7 x8 x9 x10 x11 x12 x13 x14 x15)) (n : Fin 256) (o : Fin 32) :
    val_main_v24 (F := Ideal) x0 x1 x3 x4 x5 x6 x7 x8 x9 (ix2 n o) = (tables x0 x1 x3 x4 x5 x6 x7 x8 x9 x10 x11 x12 x13 x14 x15).conv (tables x0 x1 x3 x4 x5 x6 x7 x8 x9 x10 x11 x12 x13 x14 x15).msgR n o := by
  rw [val_main_v24_apply, val_main_v23_apply, val_main_v20_apply, val_main_v19_apply, val_main_v22_apply, val_main_v21_apply,
    val_main_call2_v0_apply, val_main_call2_cst_apply, zero_word, sum_read x0 x1 x3 x4 x5 x6 x7 x8 x9 x10 x11 x12 x13 x14 x15 h]
  have el : ∀ k : Fin 510, lidx_main_v19 (ix2 n o) k = ix2 n k := fun k => eq_ix2 _
  have er : ∀ k : Fin 510, ridx_main_v19 (ix2 n o) k = ix2 k o := fun k => eq_ix2 _
  have eb : idx_main_v21 (idx_main_v22 (ix2 n o)) = ix1 o := eq_ix1 _
  simp only [el, er, eb]
  rfl

/-- The flattened node table. -/
theorem flat_read (h : SrcOk (tables x0 x1 x3 x4 x5 x6 x7 x8 x9 x10 x11 x12 x13 x14 x15)) (j : Fin 8192) :
    val_main_v25 (F := Ideal) x0 x1 x3 x4 x5 x6 x7 x8 x9 (ix2 0 j) = (tables x0 x1 x3 x4 x5 x6 x7 x8 x9 x10 x11 x12 x13 x14 x15).conv (tables x0 x1 x3 x4 x5 x6 x7 x8 x9 x10 x11 x12 x13 x14 x15).msgR ⟨j.val / 32, by omega⟩ ⟨j.val % 32, Nat.mod_lt _ (by decide)⟩ := by
  have hi : idx_main_v25 (ix2 0 j) = ix2 (⟨j.val / 32, by omega⟩ : Fin 256) (⟨j.val % 32, Nat.mod_lt _ (by decide)⟩ : Fin 32) := by
    funext a
    apply Fin.ext
    match a with
    | ⟨0, _⟩ => show (0 * 8192 + j.val) / 32 = j.val / 32; omega
    | ⟨1, _⟩ => show (0 * 8192 + j.val) % 32 = j.val % 32; omega
  rw [val_main_v25_apply, hi, conv_read x0 x1 x3 x4 x5 x6 x7 x8 x9 x10 x11 x12 x13 x14 x15 h]

/-- The reference's result at column `q`. -/
theorem result_read (h : SrcOk (tables x0 x1 x3 x4 x5 x6 x7 x8 x9 x10 x11 x12 x13 x14 x15)) (q : Fin 65280) :
    val_main_v37 (F := Ideal) x0 x1 x3 x4 x5 x6 x7 x8 x9 x10 x11 x12 x13 x14 x15 (ix2 0 q) = (tables x0 x1 x3 x4 x5 x6 x7 x8 x9 x10 x11 x12 x13 x14 x15).head ((tables x0 x1 x3 x4 x5 x6 x7 x8 x9 x10 x11 x12 x13 x14 x15).conv (tables x0 x1 x3 x4 x5 x6 x7 x8 x9 x10 x11 x12 x13 x14 x15).msgR) q := by
  have h29 : ∀ r : Fin 96, val_main_v29 (F := Ideal) x0 x1 x3 x4 x5 x6 x7 x8 x9 x10 x11 (ix2 0 r)
      = max ((∑ j : Fin 8192, (tables x0 x1 x3 x4 x5 x6 x7 x8 x9 x10 x11 x12 x13 x14 x15).conv (tables x0 x1 x3 x4 x5 x6 x7 x8 x9 x10 x11 x12 x13 x14 x15).msgR ⟨j.val / 32, by omega⟩ ⟨j.val % 32, Nat.mod_lt _ (by decide)⟩ * (tables x0 x1 x3 x4 x5 x6 x7 x8 x9 x10 x11 x12 x13 x14 x15).L1 j r) + (tables x0 x1 x3 x4 x5 x6 x7 x8 x9 x10 x11 x12 x13 x14 x15).c1 r) 0 := fun r => by
    rw [val_main_v29_apply, val_main_v28_apply, val_main_v26_apply, val_main_v27_apply, val_main_call3_v0_apply, val_main_call3_cst_apply, zero_word]
    have el : ∀ k : Fin 8192, lidx_main_v26 (ix2 0 r) k = ix2 0 k := fun k => eq_ix2 _
    have er : ∀ k : Fin 8192, ridx_main_v26 (ix2 0 r) k = ix2 k r := fun k => eq_ix2 _
    have eb : idx_main_v27 (ix2 0 r) = ix1 r := eq_ix1 _
    simp only [el, er, eb, flat_read x0 x1 x3 x4 x5 x6 x7 x8 x9 x10 x11 x12 x13 x14 x15 h]
    rfl
  have h33 : ∀ p : Fin 48, val_main_v33 (F := Ideal) x0 x1 x3 x4 x5 x6 x7 x8 x9 x10 x11 x12 x13 (ix2 0 p)
      = max ((∑ r, max ((∑ j : Fin 8192, (tables x0 x1 x3 x4 x5 x6 x7 x8 x9 x10 x11 x12 x13 x14 x15).conv (tables x0 x1 x3 x4 x5 x6 x7 x8 x9 x10 x11 x12 x13 x14 x15).msgR ⟨j.val / 32, by omega⟩ ⟨j.val % 32, Nat.mod_lt _ (by decide)⟩ * (tables x0 x1 x3 x4 x5 x6 x7 x8 x9 x10 x11 x12 x13 x14 x15).L1 j r) + (tables x0 x1 x3 x4 x5 x6 x7 x8 x9 x10 x11 x12 x13 x14 x15).c1 r) 0 * (tables x0 x1 x3 x4 x5 x6 x7 x8 x9 x10 x11 x12 x13 x14 x15).L2 r p) + (tables x0 x1 x3 x4 x5 x6 x7 x8 x9 x10 x11 x12 x13 x14 x15).c2 p) 0 := fun p => by
    rw [val_main_v33_apply, val_main_v32_apply, val_main_v30_apply, val_main_v31_apply, val_main_call4_v0_apply, val_main_call4_cst_apply, zero_word]
    have el : ∀ k : Fin 96, lidx_main_v30 (ix2 0 p) k = ix2 0 k := fun k => eq_ix2 _
    have er : ∀ k : Fin 96, ridx_main_v30 (ix2 0 p) k = ix2 k p := fun k => eq_ix2 _
    have eb : idx_main_v31 (ix2 0 p) = ix1 p := eq_ix1 _
    simp only [el, er, eb, h29]
    rfl
  rw [val_main_v37_apply, val_main_v36_apply, val_main_v34_apply, val_main_v35_apply, val_main_call5_v0_apply, val_main_call5_cst_apply, zero_word]
  have el : ∀ k : Fin 48, lidx_main_v34 (ix2 0 q) k = ix2 0 k := fun k => eq_ix2 _
  have er : ∀ k : Fin 48, ridx_main_v34 (ix2 0 q) k = ix2 k q := fun k => eq_ix2 _
  have eb : idx_main_v35 (ix2 0 q) = ix1 q := eq_ix1 _
  simp only [el, er, eb, h33]
  rfl

end Cert.ReferenceIdeal.Spec

end
-- ==== Proof.lean ====
module

public import proofs.«01_k».proof.Defs
public import proofs.«01_k».proof.Proof.FrameK
public import proofs.«01_k».proof.Proof.FrameKI
public import proofs.«01_k».proof.Proof.ResultKI
public import proofs.«01_k».proof.Proof.PreRead
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.Proof

open Idealize.ShloMosaic Idealize.SL.Sem

theorem quiet_kernel : Cert.quiescent_Kernel (hKernel := Cert.Kernel.Gen.facts) := fun m g _ => Cert.Kernel.Body.quiet m g

theorem quiet_kernel_ideal : Cert.quiescent_KernelIdeal (hKernelIdeal := Cert.KernelIdeal.Gen.facts) :=
  fun m g _ => Cert.KernelIdeal.Body.quiet m g

theorem quiet_kernel_ideal_pre : Cert.quiescent_KernelIdeal_pre_real_inputs (hKernelIdeal := Cert.KernelIdeal.Gen.facts)
    (hPre_real_inputs := Cert.Pre_real_inputs.facts) := fun m g _ => Cert.KernelIdeal.Body.quiet m g

/-- The reference declares no counter at all. -/
theorem quiet_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem quiet_reference_pre : Cert.quiescent_ReferenceIdeal_pre_real_inputs (hReferenceIdeal := Cert.ReferenceIdeal.Gen.facts)
    (hPre_real_inputs := Cert.Pre_real_inputs.facts) := fun m g _ => quiet_reference m g trivial

/-- The value both programs leave, as a table of one row. -/
def value (D : Cert.Spec.Data) : Vec Ideal Cert.KernelIdeal.S1x65280 .f32 := fun i => D.head (D.conv D.msgK) (i 1)

/-- Two tables of one row that agree on the row are equal. -/
theorem eq_value (D : Cert.Spec.Data) (Y : Vec Ideal Cert.KernelIdeal.S1x65280 .f32)
    (h : ∀ q : Fin 65280, Y (ix2 0 q) = D.head (D.conv D.msgK) q) : Y = value D := by
  funext i
  obtain ⟨z, q, rfl⟩ : ∃ (z : Fin 1) (q : Fin 65280), i = ix2 z q := ⟨i 0, i 1, eq_ix2 i⟩
  obtain rfl : z = 0 := Subsingleton.elim _ _
  exact h q

/-- The idealized kernel and the reference leave the same values, in every memory that meets the precondition. -/
theorem same_value : Cert.algebraic_KernelIdeal_ReferenceIdeal_pre_real_inputs (hKernelIdeal := Cert.KernelIdeal.Gen.facts)
    (hReferenceIdeal := Cert.ReferenceIdeal.Gen.facts) (hPre_real_inputs := Cert.Pre_real_inputs.facts) := by
  intro m g m' g' hpre heq
  have hR := Cert.KernelIdeal.Read.real_of_pre m hpre
  refine ⟨fun c => value (Cert.KernelIdeal.Read.data m c), ?_, ?_⟩
  · refine (θ_run Cert.KernelIdeal.defs _ _).mono (fun r h c => ?_)
      (Cert.KernelIdeal.Body.run_main g (Cert.KernelIdeal.Read.track m fun c => (hR c).src))
    exact ⟨eq_value _ _ (Cert.KernelIdeal.Read.result_kept _ h.1 c), Cert.KernelIdeal.Body.args_kept _ h.1 c⟩
  · refine (θ_run Cert.ReferenceIdeal.defs _ _).mono (fun r h c => ⟨?_, (h c).2⟩) (Cert.ReferenceIdeal.Value.run (F := Ideal) m' g')
    refine (h c).1.trans (eq_value _ _ fun q => ?_)
    obtain ⟨h0, h1, h2, h3, h4, h5, h6, h7, h8, h9, h10, h11, h12, h13, h14, h15⟩ := heq c
    have R := hR c
    have hm : (Cert.KernelIdeal.Read.data m c).msgK = (Cert.KernelIdeal.Read.data m c).msgR :=
      funext fun e => funext fun o => (Cert.KernelIdeal.Read.data m c).msg_eq R.X R.E R.W1 R.b1 R.W2 e o
    rw [hm]
    refine (congrFun (Cert.ReferenceIdeal.Read.val_main_v37_eq (F := Ideal) m' c) (ix2 0 q)).trans ?_
    rw [h0, h1, h3, h4, h5, h6, h7, h8, h9, h10, h11, h12, h13, h14, h15]
    exact Cert.ReferenceIdeal.Spec.result_read _ _ _ _ _ _ _ _ _ _ _ _ _ _ _ R.src q

theorem claim : Cert.Claim := ⟨Cert.Kernel.Gen.facts, Cert.KernelIdeal.Gen.facts, Cert.ReferenceIdeal.Gen.facts, Cert.Pre_real_inputs.facts,
  quiet_kernel, quiet_kernel_ideal, quiet_kernel_ideal_pre, quiet_reference, quiet_reference_pre, trivial, same_value⟩

end Cert.Proof

end
